-- ==== Defs.lean ====
def Pre_K (m : (ℓ : Loc Cert.K.nD Cert.K.τ Cert.K.sig) → Buf (Elt Bits) ℓ) : Prop :=
  True

def Pre_KIdeal (m : (ℓ : Loc Cert.KIdeal.nD Cert.KIdeal.τ Cert.KIdeal.sig) → Buf (Elt Ideal) ℓ) : Prop :=
  True

def Pre_KIdeal_pre [hPre_pre : Cert.Pre_pre.Facts] (m : (ℓ : Loc Cert.KIdeal.nD Cert.KIdeal.τ Cert.KIdeal.sig) → Buf (Elt Ideal) ℓ) : Prop :=
  ∀ c : Dev Cert.KIdeal.nD,
    (Cert.Pre_pre.fn (F := Ideal) (m ((c.tc : Thread Cert.KIdeal.nD Cert.KIdeal.τ).loc Cert.KIdeal.main_arg0)) (m ((c.tc : Thread Cert.KIdeal.nD Cert.KIdeal.τ).loc Cert.KIdeal.main_arg1)) (m ((c.tc : Thread Cert.KIdeal.nD Cert.KIdeal.τ).loc Cert.KIdeal.main_arg2)) (m ((c.tc : Thread Cert.KIdeal.nD Cert.KIdeal.τ).loc Cert.KIdeal.main_arg3)) (m ((c.tc : Thread Cert.KIdeal.nD Cert.KIdeal.τ).loc Cert.KIdeal.main_arg4))) = (fun _ => 1#1)

def Pre_RIdeal (m : (ℓ : Loc Cert.RIdeal.nD Cert.RIdeal.τ Cert.RIdeal.sig) → Buf (Elt Ideal) ℓ) : Prop :=
  True

def Pre_RIdeal_pre [hPre_pre : Cert.Pre_pre.Facts] (m : (ℓ : Loc Cert.RIdeal.nD Cert.RIdeal.τ Cert.RIdeal.sig) → Buf (Elt Ideal) ℓ) : Prop :=
  ∀ c : Dev Cert.RIdeal.nD,
    (Cert.Pre_pre.fn (F := Ideal) (m ((c.tc : Thread Cert.RIdeal.nD Cert.RIdeal.τ).loc Cert.RIdeal.main_arg0)) (m ((c.tc : Thread Cert.RIdeal.nD Cert.RIdeal.τ).loc Cert.RIdeal.main_arg1)) (m ((c.tc : Thread Cert.RIdeal.nD Cert.RIdeal.τ).loc Cert.RIdeal.main_arg2)) (m ((c.tc : Thread Cert.RIdeal.nD Cert.RIdeal.τ).loc Cert.RIdeal.main_arg3)) (m ((c.tc : Thread Cert.RIdeal.nD Cert.RIdeal.τ).loc Cert.RIdeal.main_arg4))) = (fun _ => 1#1)

def quiescent_K [hK : Cert.K.Facts] : Prop :=
  ∀ (m : (ℓ : Loc Cert.K.nD Cert.K.τ Cert.K.sig) → Buf (Elt Bits) ℓ) (g : Dev Cert.K.nD → PrngReg), Pre_K m →
    θ_run (Cert.K.defs (F := Bits)) (onTc (τ := Cert.K.τ) (Cert.K.main (F := Bits))) ⟨m, fun _ => 0, g⟩ (fun r => (∀ c : Dev Cert.K.nD,
      r.2.mem ((c.tc : Thread Cert.K.nD Cert.K.τ).loc Cert.K.main_arg0) = m ((c.tc : Thread Cert.K.nD Cert.K.τ).loc Cert.K.main_arg0)
      ∧ r.2.mem ((c.tc : Thread Cert.K.nD Cert.K.τ).loc Cert.K.main_arg1) = m ((c.tc : Thread Cert.K.nD Cert.K.τ).loc Cert.K.main_arg1)
      ∧ r.2.mem ((c.tc : Thread Cert.K.nD Cert.K.τ).loc Cert.K.main_arg2) = m ((c.tc : Thread Cert.K.nD Cert.K.τ).loc Cert.K.main_arg2)
      ∧ r.2.mem ((c.tc : Thread Cert.K.nD Cert.K.τ).loc Cert.K.main_arg3) = m ((c.tc : Thread Cert.K.nD Cert.K.τ).loc Cert.K.main_arg3)
      ∧ r.2.mem ((c.tc : Thread Cert.K.nD Cert.K.τ).loc Cert.K.main_arg4) = m ((c.tc : Thread Cert.K.nD Cert.K.τ).loc Cert.K.main_arg4))
      ∧ r.2.sem = fun _ => 0)

def quiescent_KIdeal [hKIdeal : Cert.KIdeal.Facts] : Prop :=
  ∀ (m : (ℓ : Loc Cert.KIdeal.nD Cert.KIdeal.τ Cert.KIdeal.sig) → Buf (Elt Ideal) ℓ) (g : Dev Cert.KIdeal.nD → PrngReg), Pre_KIdeal m →
    θ_run (Cert.KIdeal.defs (F := Ideal)) (onTc (τ := Cert.KIdeal.τ) (Cert.KIdeal.main (F := Ideal))) ⟨m, fun _ => 0, g⟩ (fun r => (∀ c : Dev Cert.KIdeal.nD,
      r.2.mem ((c.tc : Thread Cert.KIdeal.nD Cert.KIdeal.τ).loc Cert.KIdeal.main_arg0) = m ((c.tc : Thread Cert.KIdeal.nD Cert.KIdeal.τ).loc Cert.KIdeal.main_arg0)
      ∧ r.2.mem ((c.tc : Thread Cert.KIdeal.nD Cert.KIdeal.τ).loc Cert.KIdeal.main_arg1) = m ((c.tc : Thread Cert.KIdeal.nD Cert.KIdeal.τ).loc Cert.KIdeal.main_arg1)
      ∧ r.2.mem ((c.tc : Thread Cert.KIdeal.nD Cert.KIdeal.τ).loc Cert.KIdeal.main_arg2) = m ((c.tc : Thread Cert.KIdeal.nD Cert.KIdeal.τ).loc Cert.KIdeal.main_arg2)
      ∧ r.2.mem ((c.tc : Thread Cert.KIdeal.nD Cert.KIdeal.τ).loc Cert.KIdeal.main_arg3) = m ((c.tc : Thread Cert.KIdeal.nD Cert.KIdeal.τ).loc Cert.KIdeal.main_arg3)
      ∧ r.2.mem ((c.tc : Thread Cert.KIdeal.nD Cert.KIdeal.τ).loc Cert.KIdeal.main_arg4) = m ((c.tc : Thread Cert.KIdeal.nD Cert.KIdeal.τ).loc Cert.KIdeal.main_arg4))
      ∧ r.2.sem = fun _ => 0)

def quiescent_KIdeal_pre_pre [hKIdeal : Cert.KIdeal.Facts] [hPre_pre : Cert.Pre_pre.Facts] : Prop :=
  ∀ (m : (ℓ : Loc Cert.KIdeal.nD Cert.KIdeal.τ Cert.KIdeal.sig) → Buf (Elt Ideal) ℓ) (g : Dev Cert.KIdeal.nD → PrngReg), Pre_KIdeal_pre m →
    θ_run (Cert.KIdeal.defs (F := Ideal)) (onTc (τ := Cert.KIdeal.τ) (Cert.KIdeal.main (F := Ideal))) ⟨m, fun _ => 0, g⟩ (fun r => (∀ c : Dev Cert.KIdeal.nD,
      r.2.mem ((c.tc : Thread Cert.KIdeal.nD Cert.KIdeal.τ).loc Cert.KIdeal.main_arg0) = m ((c.tc : Thread Cert.KIdeal.nD Cert.KIdeal.τ).loc Cert.KIdeal.main_arg0)
      ∧ r.2.mem ((c.tc : Thread Cert.KIdeal.nD Cert.KIdeal.τ).loc Cert.KIdeal.main_arg1) = m ((c.tc : Thread Cert.KIdeal.nD Cert.KIdeal.τ).loc Cert.KIdeal.main_arg1)
      ∧ r.2.mem ((c.tc : Thread Cert.KIdeal.nD Cert.KIdeal.τ).loc Cert.KIdeal.main_arg2) = m ((c.tc : Thread Cert.KIdeal.nD Cert.KIdeal.τ).loc Cert.KIdeal.main_arg2)
      ∧ r.2.mem ((c.tc : Thread Cert.KIdeal.nD Cert.KIdeal.τ).loc Cert.KIdeal.main_arg3) = m ((c.tc : Thread Cert.KIdeal.nD Cert.KIdeal.τ).loc Cert.KIdeal.main_arg3)
      ∧ r.2.mem ((c.tc : Thread Cert.KIdeal.nD Cert.KIdeal.τ).loc Cert.KIdeal.main_arg4) = m ((c.tc : Thread Cert.KIdeal.nD Cert.KIdeal.τ).loc Cert.KIdeal.main_arg4))
      ∧ r.2.sem = fun _ => 0)

def quiescent_RIdeal [hRIdeal : Cert.RIdeal.Facts] : Prop :=
  ∀ (m : (ℓ : Loc Cert.RIdeal.nD Cert.RIdeal.τ Cert.RIdeal.sig) → Buf (Elt Ideal) ℓ) (g : Dev Cert.RIdeal.nD → PrngReg), Pre_RIdeal m →
    θ_run (Cert.RIdeal.defs (F := Ideal)) (onTc (τ := Cert.RIdeal.τ) (Cert.RIdeal.main (F := Ideal))) ⟨m, fun _ => 0, g⟩ (fun r => (∀ c : Dev Cert.RIdeal.nD,
      r.2.mem ((c.tc : Thread Cert.RIdeal.nD Cert.RIdeal.τ).loc Cert.RIdeal.main_arg0) = m ((c.tc : Thread Cert.RIdeal.nD Cert.RIdeal.τ).loc Cert.RIdeal.main_arg0)
      ∧ r.2.mem ((c.tc : Thread Cert.RIdeal.nD Cert.RIdeal.τ).loc Cert.RIdeal.main_arg1) = m ((c.tc : Thread Cert.RIdeal.nD Cert.RIdeal.τ).loc Cert.RIdeal.main_arg1)
      ∧ r.2.mem ((c.tc : Thread Cert.RIdeal.nD Cert.RIdeal.τ).loc Cert.RIdeal.main_arg2) = m ((c.tc : Thread Cert.RIdeal.nD Cert.RIdeal.τ).loc Cert.RIdeal.main_arg2)
      ∧ r.2.mem ((c.tc : Thread Cert.RIdeal.nD Cert.RIdeal.τ).loc Cert.RIdeal.main_arg3) = m ((c.tc : Thread Cert.RIdeal.nD Cert.RIdeal.τ).loc Cert.RIdeal.main_arg3)
      ∧ r.2.mem ((c.tc : Thread Cert.RIdeal.nD Cert.RIdeal.τ).loc Cert.RIdeal.main_arg4) = m ((c.tc : Thread Cert.RIdeal.nD Cert.RIdeal.τ).loc Cert.RIdeal.main_arg4))
      ∧ r.2.sem = fun _ => 0)

def quiescent_RIdeal_pre_pre [hRIdeal : Cert.RIdeal.Facts] [hPre_pre : Cert.Pre_pre.Facts] : Prop :=
  ∀ (m : (ℓ : Loc Cert.RIdeal.nD Cert.RIdeal.τ Cert.RIdeal.sig) → Buf (Elt Ideal) ℓ) (g : Dev Cert.RIdeal.nD → PrngReg), Pre_RIdeal_pre m →
    θ_run (Cert.RIdeal.defs (F := Ideal)) (onTc (τ := Cert.RIdeal.τ) (Cert.RIdeal.main (F := Ideal))) ⟨m, fun _ => 0, g⟩ (fun r => (∀ c : Dev Cert.RIdeal.nD,
      r.2.mem ((c.tc : Thread Cert.RIdeal.nD Cert.RIdeal.τ).loc Cert.RIdeal.main_arg0) = m ((c.tc : Thread Cert.RIdeal.nD Cert.RIdeal.τ).loc Cert.RIdeal.main_arg0)
      ∧ r.2.mem ((c.tc : Thread Cert.RIdeal.nD Cert.RIdeal.τ).loc Cert.RIdeal.main_arg1) = m ((c.tc : Thread Cert.RIdeal.nD Cert.RIdeal.τ).loc Cert.RIdeal.main_arg1)
      ∧ r.2.mem ((c.tc : Thread Cert.RIdeal.nD Cert.RIdeal.τ).loc Cert.RIdeal.main_arg2) = m ((c.tc : Thread Cert.RIdeal.nD Cert.RIdeal.τ).loc Cert.RIdeal.main_arg2)
      ∧ r.2.mem ((c.tc : Thread Cert.RIdeal.nD Cert.RIdeal.τ).loc Cert.RIdeal.main_arg3) = m ((c.tc : Thread Cert.RIdeal.nD Cert.RIdeal.τ).loc Cert.RIdeal.main_arg3)
      ∧ r.2.mem ((c.tc : Thread Cert.RIdeal.nD Cert.RIdeal.τ).loc Cert.RIdeal.main_arg4) = m ((c.tc : Thread Cert.RIdeal.nD Cert.RIdeal.τ).loc Cert.RIdeal.main_arg4))
      ∧ r.2.sem = fun _ => 0)

def preserves_K_KIdeal : Prop :=
  IdealRules.bf16_pair.BufferStatement Cert.KIdeal.S8x64x2x128 Cert.KIdeal.S8x64x1x128
  ∧ IdealRules.bf16_pair.BufferStatement Cert.KIdeal.S6x64x2x128 Cert.KIdeal.S6x64x1x128
  ∧ IdealRules.bf16_pair.Statement Cert.KIdeal.S8x1024 Cert.KIdeal.S4x1024
  ∧ IdealRules.bf16_pair.Statement Cert.KIdeal.S1x4x2x128 Cert.KIdeal.S1x4x1x128
  ∧ IdealRules.bf16_pair.Statement Cert.KIdeal.S8x768 Cert.KIdeal.S4x768
  ∧ IdealRules.bf16_pair.Statement Cert.KIdeal.S1x64x2x128 Cert.KIdeal.S1x64x1x128
  ∧ IdealRules.bf16_pair.Statement Cert.KIdeal.S128x128 Cert.KIdeal.S64x128
  ∧ IdealRules.bf16_pair.Statement Cert.KIdeal.S1x8x2x128 Cert.KIdeal.S1x8x1x128
  ∧ IdealRules.bf16_pair.Statement Cert.KIdeal.S16x128 Cert.KIdeal.S8x128
  ∧ IdealRules.bf16_pair.Statement Cert.KIdeal.S128x512 Cert.KIdeal.S64x512

def algebraic_KIdeal_RIdeal_pre_pre [hKIdeal : Cert.KIdeal.Facts] [hRIdeal : Cert.RIdeal.Facts] [hPre_pre : Cert.Pre_pre.Facts] : Prop :=
  ∀ (m : (ℓ : Loc Cert.KIdeal.nD Cert.KIdeal.τ Cert.KIdeal.sig) → Buf (Elt Ideal) ℓ) (g : Dev Cert.KIdeal.nD → PrngReg)
    (m' : (ℓ : Loc Cert.RIdeal.nD Cert.RIdeal.τ Cert.RIdeal.sig) → Buf (Elt Ideal) ℓ) (g' : Dev Cert.RIdeal.nD → PrngReg), Pre_KIdeal_pre m →
    (∀ c : Dev Cert.KIdeal.nD,
      m' ((c.tc : Thread Cert.RIdeal.nD Cert.RIdeal.τ).loc Cert.RIdeal.main_arg0) = m ((c.tc : Thread Cert.KIdeal.nD Cert.KIdeal.τ).loc Cert.KIdeal.main_arg0)
      ∧ m' ((c.tc : Thread Cert.RIdeal.nD Cert.RIdeal.τ).loc Cert.RIdeal.main_arg1) = m ((c.tc : Thread Cert.KIdeal.nD Cert.KIdeal.τ).loc Cert.KIdeal.main_arg1)
      ∧ m' ((c.tc : Thread Cert.RIdeal.nD Cert.RIdeal.τ).loc Cert.RIdeal.main_arg2) = m ((c.tc : Thread Cert.KIdeal.nD Cert.KIdeal.τ).loc Cert.KIdeal.main_arg2)
      ∧ m' ((c.tc : Thread Cert.RIdeal.nD Cert.RIdeal.τ).loc Cert.RIdeal.main_arg3) = m ((c.tc : Thread Cert.KIdeal.nD Cert.KIdeal.τ).loc Cert.KIdeal.main_arg3)
      ∧ m' ((c.tc : Thread Cert.RIdeal.nD Cert.RIdeal.τ).loc Cert.RIdeal.main_arg4) = m ((c.tc : Thread Cert.KIdeal.nD Cert.KIdeal.τ).loc Cert.KIdeal.main_arg4)) →
    ∃ (v0 : (c : Dev Cert.KIdeal.nD) → Buf (Elt Ideal) ((c.tc : Thread Cert.KIdeal.nD Cert.KIdeal.τ).loc Cert.KIdeal.main_v2)),
      θ_run (Cert.KIdeal.defs (F := Ideal)) (onTc (τ := Cert.KIdeal.τ) (Cert.KIdeal.main (F := Ideal))) ⟨m, fun _ => 0, g⟩ (fun r => ∀ c : Dev Cert.KIdeal.nD,
          r.2.mem ((c.tc : Thread Cert.KIdeal.nD Cert.KIdeal.τ).loc Cert.KIdeal.main_v2) = v0 c
          ∧ r.2.mem ((c.tc : Thread Cert.KIdeal.nD Cert.KIdeal.τ).loc Cert.KIdeal.main_arg0) = m ((c.tc : Thread Cert.KIdeal.nD Cert.KIdeal.τ).loc Cert.KIdeal.main_arg0)
          ∧ r.2.mem ((c.tc : Thread Cert.KIdeal.nD Cert.KIdeal.τ).loc Cert.KIdeal.main_arg1) = m ((c.tc : Thread Cert.KIdeal.nD Cert.KIdeal.τ).loc Cert.KIdeal.main_arg1)
          ∧ r.2.mem ((c.tc : Thread Cert.KIdeal.nD Cert.KIdeal.τ).loc Cert.KIdeal.main_arg2) = m ((c.tc : Thread Cert.KIdeal.nD Cert.KIdeal.τ).loc Cert.KIdeal.main_arg2)
          ∧ r.2.mem ((c.tc : Thread Cert.KIdeal.nD Cert.KIdeal.τ).loc Cert.KIdeal.main_arg3) = m ((c.tc : Thread Cert.KIdeal.nD Cert.KIdeal.τ).loc Cert.KIdeal.main_arg3)
          ∧ r.2.mem ((c.tc : Thread Cert.KIdeal.nD Cert.KIdeal.τ).loc Cert.KIdeal.main_arg4) = m ((c.tc : Thread Cert.KIdeal.nD Cert.KIdeal.τ).loc Cert.KIdeal.main_arg4))
      ∧ θ_run (Cert.RIdeal.defs (F := Ideal)) (onTc (τ := Cert.RIdeal.τ) (Cert.RIdeal.main (F := Ideal))) ⟨m', fun _ => 0, g'⟩ (fun r => ∀ c : Dev Cert.RIdeal.nD,
          r.2.mem ((c.tc : Thread Cert.RIdeal.nD Cert.RIdeal.τ).loc Cert.RIdeal.main_v18) = v0 c
          ∧ r.2.mem ((c.tc : Thread Cert.RIdeal.nD Cert.RIdeal.τ).loc Cert.RIdeal.main_arg0) = m' ((c.tc : Thread Cert.RIdeal.nD Cert.RIdeal.τ).loc Cert.RIdeal.main_arg0)
          ∧ r.2.mem ((c.tc : Thread Cert.RIdeal.nD Cert.RIdeal.τ).loc Cert.RIdeal.main_arg1) = m' ((c.tc : Thread Cert.RIdeal.nD Cert.RIdeal.τ).loc Cert.RIdeal.main_arg1)
          ∧ r.2.mem ((c.tc : Thread Cert.RIdeal.nD Cert.RIdeal.τ).loc Cert.RIdeal.main_arg2) = m' ((c.tc : Thread Cert.RIdeal.nD Cert.RIdeal.τ).loc Cert.RIdeal.main_arg2)
          ∧ r.2.mem ((c.tc : Thread Cert.RIdeal.nD Cert.RIdeal.τ).loc Cert.RIdeal.main_arg3) = m' ((c.tc : Thread Cert.RIdeal.nD Cert.RIdeal.τ).loc Cert.RIdeal.main_arg3)
          ∧ r.2.mem ((c.tc : Thread Cert.RIdeal.nD Cert.RIdeal.τ).loc Cert.RIdeal.main_arg4) = m' ((c.tc : Thread Cert.RIdeal.nD Cert.RIdeal.τ).loc Cert.RIdeal.main_arg4))

def Claim : Prop :=
  ∃ (hK : Cert.K.Facts) (hKIdeal : Cert.KIdeal.Facts) (hRIdeal : Cert.RIdeal.Facts) (hPre_pre : Cert.Pre_pre.Facts),
    quiescent_K (hK := hK)
    ∧ quiescent_KIdeal (hKIdeal := hKIdeal)
    ∧ quiescent_KIdeal_pre_pre (hKIdeal := hKIdeal) (hPre_pre := hPre_pre)
    ∧ quiescent_RIdeal (hRIdeal := hRIdeal)
    ∧ quiescent_RIdeal_pre_pre (hRIdeal := hRIdeal) (hPre_pre := hPre_pre)
    ∧ preserves_K_KIdeal
    ∧ algebraic_KIdeal_RIdeal_pre_pre (hKIdeal := hKIdeal) (hRIdeal := hRIdeal) (hPre_pre := hPre_pre)
-- ==== Pre_pre.lean ====
abbrev S6x16384x16 : Shape := ⟨3, ![6, 16384, 16]⟩
abbrev S16x1024x8 : Shape := ⟨3, ![16, 1024, 8]⟩
abbrev S16x8x768 : Shape := ⟨3, ![16, 8, 768]⟩
abbrev S16x768 : Shape := ⟨2, ![16, 768]⟩
abbrev S_ : Shape := ⟨0, ![]⟩

class Facts : Prop where
  bcast_S_S6x16384x16 : S_.BroadcastsInDim S6x16384x16 (![] : Fin 0 → Fin S6x16384x16.rank)

variable [Facts]

def fn {F : FTy → Type} [FloatOps F] (main_arg0 : IVec S6x16384x16 32) (main_arg1 : FVec F S16x1024x8 .bf16) (main_arg2 : FVec F S16x8x768 .fp8e4m3) (main_arg3 : FVec F S16x768 .f32) (main_arg4 : FVec F S16x768 .f32) : IVec S6x16384x16 1 :=
  let main_c : IVec S_ 32 := constantI S_ 32 0#32
  let main_v0 : IVec S6x16384x16 32 := broadcastInDim S6x16384x16 ![] bcast_S_S6x16384x16 main_c
  let main_v1 : IVec S6x16384x16 1 := cmpi .sge main_arg0 main_v0
  let main_c_0 : IVec S_ 32 := constantI S_ 32 1024#32
  let main_v2 : IVec S6x16384x16 32 := broadcastInDim S6x16384x16 ![] bcast_S_S6x16384x16 main_c_0
  let main_v3 : IVec S6x16384x16 1 := cmpi .slt main_arg0 main_v2
  let main_v4 : IVec S6x16384x16 1 := andi main_v1 main_v3
  main_v4
-- ==== K.lean ====
abbrev S6x16384x16 : Shape := ⟨3, ![6, 16384, 16]⟩
abbrev S16x1024x8 : Shape := ⟨3, ![16, 1024, 8]⟩
abbrev S16x8x768 : Shape := ⟨3, ![16, 8, 768]⟩
abbrev S16x768 : Shape := ⟨2, ![16, 768]⟩
abbrev S6x16x16384 : Shape := ⟨3, ![6, 16, 16384]⟩
abbrev S16x8x1024 : Shape := ⟨3, ![16, 8, 1024]⟩
abbrev S6x16384x768 : Shape := ⟨3, ![6, 16384, 768]⟩
abbrev S1x16x512 : Shape := ⟨3, ![1, 16, 512]⟩
abbrev S1x512x768 : Shape := ⟨3, ![1, 512, 768]⟩
abbrev S8x64x128 : Shape := ⟨3, ![8, 64, 128]⟩
abbrev S6x64x128 : Shape := ⟨3, ![6, 64, 128]⟩
abbrev S1x768 : Shape := ⟨2, ![1, 768]⟩
abbrev S1x8x1024 : Shape := ⟨3, ![1, 8, 1024]⟩
abbrev S8x1024 : Shape := ⟨2, ![8, 1024]⟩
abbrev S4x1024 : Shape := ⟨2, ![4, 1024]⟩
abbrev S4x128 : Shape := ⟨2, ![4, 128]⟩
abbrev S1x4x128 : Shape := ⟨3, ![1, 4, 128]⟩
abbrev S1x8x768 : Shape := ⟨3, ![1, 8, 768]⟩
abbrev S8x768 : Shape := ⟨2, ![8, 768]⟩
abbrev S4x768 : Shape := ⟨2, ![4, 768]⟩
abbrev S768 : Shape := ⟨1, ![768]⟩
abbrev S1x64x128 : Shape := ⟨3, ![1, 64, 128]⟩
abbrev S64x128 : Shape := ⟨2, ![64, 128]⟩
abbrev S128x128 : Shape := ⟨2, ![128, 128]⟩
abbrev S128x768 : Shape := ⟨2, ![128, 768]⟩
abbrev S1x8x128 : Shape := ⟨3, ![1, 8, 128]⟩
abbrev S8x128 : Shape := ⟨2, ![8, 128]⟩
abbrev S8x1x128 : Shape := ⟨3, ![8, 1, 128]⟩
abbrev S8x2x128 : Shape := ⟨3, ![8, 2, 128]⟩
abbrev S16x128 : Shape := ⟨2, ![16, 128]⟩
abbrev S16x128x1 : Shape := ⟨3, ![16, 128, 1]⟩
abbrev S64x512 : Shape := ⟨2, ![64, 512]⟩
abbrev S128x512 : Shape := ⟨2, ![128, 512]⟩
abbrev S512x768 : Shape := ⟨2, ![512, 768]⟩

abbrev nBuf : Space → Nat
  | .hbm => 8
  | .vmem => 11
  | .smem => 0
  | _ => 0

abbrev bufTy : (tb : Table) → Fin (tcTables nBuf tb) → BufTy
  | .hbm, ⟨0, _⟩ => ⟨S6x16384x16, .i32⟩
  | .hbm, ⟨1, _⟩ => ⟨S16x1024x8, .bf16⟩
  | .hbm, ⟨2, _⟩ => ⟨S16x8x768, .fp8e4m3⟩
  | .hbm, ⟨3, _⟩ => ⟨S16x768, .f32⟩
  | .hbm, ⟨4, _⟩ => ⟨S16x768, .f32⟩
  | .hbm, ⟨5, _⟩ => ⟨S6x16x16384, .i32⟩
  | .hbm, ⟨6, _⟩ => ⟨S16x8x1024, .bf16⟩
  | .hbm, ⟨7, _⟩ => ⟨S6x16384x768, .bf16⟩
  | .local _ .vmem, ⟨0, _⟩ => ⟨S1x16x512, .i32⟩
  | .local _ .vmem, ⟨1, _⟩ => ⟨S1x16x512, .i32⟩
  | .local _ .vmem, ⟨2, _⟩ => ⟨S16x8x1024, .bf16⟩
  | .local _ .vmem, ⟨3, _⟩ => ⟨S16x8x768, .fp8e4m3⟩
  | .local _ .vmem, ⟨4, _⟩ => ⟨S16x768, .f32⟩
  | .local _ .vmem, ⟨5, _⟩ => ⟨S16x768, .f32⟩
  | .local _ .vmem, ⟨6, _⟩ => ⟨S1x512x768, .bf16⟩
  | .local _ .vmem, ⟨7, _⟩ => ⟨S1x512x768, .bf16⟩
  | .local _ .vmem, ⟨8, _⟩ => ⟨S8x64x128, .i32⟩
  | .local _ .vmem, ⟨9, _⟩ => ⟨S6x64x128, .i32⟩
  | .local _ .vmem, ⟨10, _⟩ => ⟨S1x768, .f32⟩
  | _, _ => ⟨S6x16384x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [BitOps F]

abbrev grid0 : Pipeline.Grid := ⟨2, ![6, 32], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_851 : BitVec 32 := 0#32
  let c16_i32 : BitVec 32 := 16#32
  let v2270 : BitVec 32 := Scalar.addi c0_i32_851 c16_i32
  let c1_i32 : BitVec 32 := 1#32
  ⟨c0_i32_851, v2270, c1_i32⟩
def k0_off1 (k0_t1 : Fin k0_t1_loop.trips) : Fin 3 → Nat :=
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2279 : Index := Scalar.indexCast v2278
  let c0_860 : Index := 0#32
  let c0_861 : Index := 0#32
  ![v2279.toNat, 0, 0]
def k0_off2 (k0_t1 : Fin k0_t1_loop.trips) : Fin 3 → Nat :=
  let c0_862 : Index := 0#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2284 : Index := Scalar.indexCast v2278
  let c0_863 : Index := 0#32
  ![0, v2284.toNat, 0]
def k0_off3 (k0_t1 : Fin k0_t1_loop.trips) : Fin 3 → Nat :=
  let c1_864 : Index := 1#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2289 : Index := Scalar.indexCast v2278
  let c0_865 : Index := 0#32
  ![1, v2289.toNat, 0]
def k0_off4 (k0_t1 : Fin k0_t1_loop.trips) : Fin 3 → Nat :=
  let c2_866 : Index := 2#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2294 : Index := Scalar.indexCast v2278
  let c0_867 : Index := 0#32
  ![2, v2294.toNat, 0]
def k0_off5 (k0_t1 : Fin k0_t1_loop.trips) : Fin 3 → Nat :=
  let c3_868 : Index := 3#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2299 : Index := Scalar.indexCast v2278
  let c0_869 : Index := 0#32
  ![3, v2299.toNat, 0]
def k0_off6 (k0_t1 : Fin k0_t1_loop.trips) : Fin 3 → Nat :=
  let c4_870 : Index := 4#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2304 : Index := Scalar.indexCast v2278
  let c0_871 : Index := 0#32
  ![4, v2304.toNat, 0]
def k0_off7 (k0_t1 : Fin k0_t1_loop.trips) : Fin 3 → Nat :=
  let c5_872 : Index := 5#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2309 : Index := Scalar.indexCast v2278
  let c0_873 : Index := 0#32
  ![5, v2309.toNat, 0]
def k0_off8 (k0_t1 : Fin k0_t1_loop.trips) : Fin 3 → Nat :=
  let c6_874 : Index := 6#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2314 : Index := Scalar.indexCast v2278
  let c0_875 : Index := 0#32
  ![6, v2314.toNat, 0]
def k0_off9 (k0_t1 : Fin k0_t1_loop.trips) : Fin 3 → Nat :=
  let c7_876 : Index := 7#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2319 : Index := Scalar.indexCast v2278
  let c0_877 : Index := 0#32
  ![7, v2319.toNat, 0]
def k0_off10 (k0_t1 : Fin k0_t1_loop.trips) : Fin 2 → Nat :=
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2323 : Index := Scalar.indexCast v2278
  let c0_878 : Index := 0#32
  ![v2323.toNat, 0]
def k0_off11 (k0_t1 : Fin k0_t1_loop.trips) : Fin 3 → Nat :=
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2327 : Index := Scalar.indexCast v2278
  let c0_879 : Index := 0#32
  let c0_880 : Index := 0#32
  ![v2327.toNat, 0, 0]
def k0_off12 (k0_t1 : Fin k0_t1_loop.trips) : Fin 3 → Nat :=
  let c0_881 : Index := 0#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2336 : Index := Scalar.indexCast v2278
  let c0_882 : Index := 0#32
  ![0, v2336.toNat, 0]
def k0_off13 (k0_t1 : Fin k0_t1_loop.trips) : Fin 3 → Nat :=
  let c1_883 : Index := 1#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2341 : Index := Scalar.indexCast v2278
  let c0_884 : Index := 0#32
  ![1, v2341.toNat, 0]
def k0_off14 (k0_t1 : Fin k0_t1_loop.trips) : Fin 3 → Nat :=
  let c2_885 : Index := 2#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2346 : Index := Scalar.indexCast v2278
  let c0_886 : Index := 0#32
  ![2, v2346.toNat, 0]
def k0_off15 (k0_t1 : Fin k0_t1_loop.trips) : Fin 3 → Nat :=
  let c3_887 : Index := 3#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2351 : Index := Scalar.indexCast v2278
  let c0_888 : Index := 0#32
  ![3, v2351.toNat, 0]
def k0_off16 (k0_t1 : Fin k0_t1_loop.trips) : Fin 3 → Nat :=
  let c4_889 : Index := 4#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2356 : Index := Scalar.indexCast v2278
  let c0_890 : Index := 0#32
  ![4, v2356.toNat, 0]
def k0_off17 (k0_t1 : Fin k0_t1_loop.trips) : Fin 3 → Nat :=
  let c5_891 : Index := 5#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2361 : Index := Scalar.indexCast v2278
  let c0_892 : Index := 0#32
  ![5, v2361.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x8x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x8x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KIdeal.lean ====
abbrev S6x16384x16 : Shape := ⟨3, ![6, 16384, 16]⟩
abbrev S16x1024x8 : Shape := ⟨3, ![16, 1024, 8]⟩
abbrev S16x8x768 : Shape := ⟨3, ![16, 8, 768]⟩
abbrev S16x768 : Shape := ⟨2, ![16, 768]⟩
abbrev S6x16x16384 : Shape := ⟨3, ![6, 16, 16384]⟩
abbrev S16x8x1024 : Shape := ⟨3, ![16, 8, 1024]⟩
abbrev S6x16384x768 : Shape := ⟨3, ![6, 16384, 768]⟩
abbrev S1x16x512 : Shape := ⟨3, ![1, 16, 512]⟩
abbrev S1x512x768 : Shape := ⟨3, ![1, 512, 768]⟩
abbrev S8x64x128 : Shape := ⟨3, ![8, 64, 128]⟩
abbrev S8x64x2x128 : Shape := ⟨4, ![8, 64, 2, 128]⟩
abbrev S8x64x1x128 : Shape := ⟨4, ![8, 64, 1, 128]⟩
abbrev S6x64x128 : Shape := ⟨3, ![6, 64, 128]⟩
abbrev S6x64x2x128 : Shape := ⟨4, ![6, 64, 2, 128]⟩
abbrev S6x64x1x128 : Shape := ⟨4, ![6, 64, 1, 128]⟩
abbrev S1x768 : Shape := ⟨2, ![1, 768]⟩
abbrev S1x8x1024 : Shape := ⟨3, ![1, 8, 1024]⟩
abbrev S8x1024 : Shape := ⟨2, ![8, 1024]⟩
abbrev S4x1024 : Shape := ⟨2, ![4, 1024]⟩
abbrev S4x128 : Shape := ⟨2, ![4, 128]⟩
abbrev S1x4x128 : Shape := ⟨3, ![1, 4, 128]⟩
abbrev S1x4x2x128 : Shape := ⟨4, ![1, 4, 2, 128]⟩
abbrev S1x4x1x128 : Shape := ⟨4, ![1, 4, 1, 128]⟩
abbrev S1x8x768 : Shape := ⟨3, ![1, 8, 768]⟩
abbrev S8x768 : Shape := ⟨2, ![8, 768]⟩
abbrev S4x768 : Shape := ⟨2, ![4, 768]⟩
abbrev S768 : Shape := ⟨1, ![768]⟩
abbrev S1x64x128 : Shape := ⟨3, ![1, 64, 128]⟩
abbrev S1x64x2x128 : Shape := ⟨4, ![1, 64, 2, 128]⟩
abbrev S1x64x1x128 : Shape := ⟨4, ![1, 64, 1, 128]⟩
abbrev S64x128 : Shape := ⟨2, ![64, 128]⟩
abbrev S128x128 : Shape := ⟨2, ![128, 128]⟩
abbrev S128x768 : Shape := ⟨2, ![128, 768]⟩
abbrev S1x8x128 : Shape := ⟨3, ![1, 8, 128]⟩
abbrev S8x128 : Shape := ⟨2, ![8, 128]⟩
abbrev S8x1x128 : Shape := ⟨3, ![8, 1, 128]⟩
abbrev S8x2x128 : Shape := ⟨3, ![8, 2, 128]⟩
abbrev S16x128 : Shape := ⟨2, ![16, 128]⟩
abbrev S1x8x2x128 : Shape := ⟨4, ![1, 8, 2, 128]⟩
abbrev S1x8x1x128 : Shape := ⟨4, ![1, 8, 1, 128]⟩
abbrev S16x128x1 : Shape := ⟨3, ![16, 128, 1]⟩
abbrev S64x512 : Shape := ⟨2, ![64, 512]⟩
abbrev S128x512 : Shape := ⟨2, ![128, 512]⟩
abbrev S512x768 : Shape := ⟨2, ![512, 768]⟩

abbrev nBuf : Space → Nat
  | .hbm => 8
  | .vmem => 11
  | .smem => 0
  | _ => 0

abbrev bufTy : (tb : Table) → Fin (tcTables nBuf tb) → BufTy
  | .hbm, ⟨0, _⟩ => ⟨S6x16384x16, .i32⟩
  | .hbm, ⟨1, _⟩ => ⟨S16x1024x8, .bf16⟩
  | .hbm, ⟨2, _⟩ => ⟨S16x8x768, .fp8e4m3⟩
  | .hbm, ⟨3, _⟩ => ⟨S16x768, .f32⟩
  | .hbm, ⟨4, _⟩ => ⟨S16x768, .f32⟩
  | .hbm, ⟨5, _⟩ => ⟨S6x16x16384, .i32⟩
  | .hbm, ⟨6, _⟩ => ⟨S16x8x1024, .bf16⟩
  | .hbm, ⟨7, _⟩ => ⟨S6x16384x768, .bf16⟩
  | .local _ .vmem, ⟨0, _⟩ => ⟨S1x16x512, .i32⟩
  | .local _ .vmem, ⟨1, _⟩ => ⟨S1x16x512, .i32⟩
  | .local _ .vmem, ⟨2, _⟩ => ⟨S16x8x1024, .bf16⟩
  | .local _ .vmem, ⟨3, _⟩ => ⟨S16x8x768, .fp8e4m3⟩
  | .local _ .vmem, ⟨4, _⟩ => ⟨S16x768, .f32⟩
  | .local _ .vmem, ⟨5, _⟩ => ⟨S16x768, .f32⟩
  | .local _ .vmem, ⟨6, _⟩ => ⟨S1x512x768, .bf16⟩
  | .local _ .vmem, ⟨7, _⟩ => ⟨S1x512x768, .bf16⟩
  | .local _ .vmem, ⟨8, _⟩ => ⟨S8x64x2x128, .bf16⟩
  | .local _ .vmem, ⟨9, _⟩ => ⟨S6x64x2x128, .bf16⟩
  | .local _ .vmem, ⟨10, _⟩ => ⟨S1x768, .f32⟩
  | _, _ => ⟨S6x16384x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![6, 32], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_851 : BitVec 32 := 0#32
  let c16_i32 : BitVec 32 := 16#32
  let v2270 : BitVec 32 := Scalar.addi c0_i32_851 c16_i32
  let c1_i32 : BitVec 32 := 1#32
  ⟨c0_i32_851, v2270, c1_i32⟩
def k0_off1 (k0_t1 : Fin k0_t1_loop.trips) : Fin 3 → Nat :=
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2279 : Index := Scalar.indexCast v2278
  let c0_860 : Index := 0#32
  let c0_861 : Index := 0#32
  ![v2279.toNat, 0, 0]
def k0_off2 (k0_t1 : Fin k0_t1_loop.trips) : Fin 4 → Nat :=
  let c0_862 : Index := 0#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2284 : Index := Scalar.indexCast v2278
  let c0_863 : Index := 0#32
  ![0, v2284.toNat, 0, 0]
def k0_off3 (k0_t1 : Fin k0_t1_loop.trips) : Fin 4 → Nat :=
  let c1_864 : Index := 1#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2289 : Index := Scalar.indexCast v2278
  let c0_865 : Index := 0#32
  ![1, v2289.toNat, 0, 0]
def k0_off4 (k0_t1 : Fin k0_t1_loop.trips) : Fin 4 → Nat :=
  let c2_866 : Index := 2#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2294 : Index := Scalar.indexCast v2278
  let c0_867 : Index := 0#32
  ![2, v2294.toNat, 0, 0]
def k0_off5 (k0_t1 : Fin k0_t1_loop.trips) : Fin 4 → Nat :=
  let c3_868 : Index := 3#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2299 : Index := Scalar.indexCast v2278
  let c0_869 : Index := 0#32
  ![3, v2299.toNat, 0, 0]
def k0_off6 (k0_t1 : Fin k0_t1_loop.trips) : Fin 4 → Nat :=
  let c4_870 : Index := 4#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2304 : Index := Scalar.indexCast v2278
  let c0_871 : Index := 0#32
  ![4, v2304.toNat, 0, 0]
def k0_off7 (k0_t1 : Fin k0_t1_loop.trips) : Fin 4 → Nat :=
  let c5_872 : Index := 5#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2309 : Index := Scalar.indexCast v2278
  let c0_873 : Index := 0#32
  ![5, v2309.toNat, 0, 0]
def k0_off8 (k0_t1 : Fin k0_t1_loop.trips) : Fin 4 → Nat :=
  let c6_874 : Index := 6#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2314 : Index := Scalar.indexCast v2278
  let c0_875 : Index := 0#32
  ![6, v2314.toNat, 0, 0]
def k0_off9 (k0_t1 : Fin k0_t1_loop.trips) : Fin 4 → Nat :=
  let c7_876 : Index := 7#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2319 : Index := Scalar.indexCast v2278
  let c0_877 : Index := 0#32
  ![7, v2319.toNat, 0, 0]
def k0_off10 (k0_t1 : Fin k0_t1_loop.trips) : Fin 2 → Nat :=
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2323 : Index := Scalar.indexCast v2278
  let c0_878 : Index := 0#32
  ![v2323.toNat, 0]
def k0_off11 (k0_t1 : Fin k0_t1_loop.trips) : Fin 3 → Nat :=
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2327 : Index := Scalar.indexCast v2278
  let c0_879 : Index := 0#32
  let c0_880 : Index := 0#32
  ![v2327.toNat, 0, 0]
def k0_off12 (k0_t1 : Fin k0_t1_loop.trips) : Fin 4 → Nat :=
  let c0_881 : Index := 0#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2336 : Index := Scalar.indexCast v2278
  let c0_882 : Index := 0#32
  ![0, v2336.toNat, 0, 0]
def k0_off13 (k0_t1 : Fin k0_t1_loop.trips) : Fin 4 → Nat :=
  let c1_883 : Index := 1#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2341 : Index := Scalar.indexCast v2278
  let c0_884 : Index := 0#32
  ![1, v2341.toNat, 0, 0]
def k0_off14 (k0_t1 : Fin k0_t1_loop.trips) : Fin 4 → Nat :=
  let c2_885 : Index := 2#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2346 : Index := Scalar.indexCast v2278
  let c0_886 : Index := 0#32
  ![2, v2346.toNat, 0, 0]
def k0_off15 (k0_t1 : Fin k0_t1_loop.trips) : Fin 4 → Nat :=
  let c3_887 : Index := 3#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2351 : Index := Scalar.indexCast v2278
  let c0_888 : Index := 0#32
  ![3, v2351.toNat, 0, 0]
def k0_off16 (k0_t1 : Fin k0_t1_loop.trips) : Fin 4 → Nat :=
  let c4_889 : Index := 4#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2356 : Index := Scalar.indexCast v2278
  let c0_890 : Index := 0#32
  ![4, v2356.toNat, 0, 0]
def k0_off17 (k0_t1 : Fin k0_t1_loop.trips) : Fin 4 → Nat :=
  let c5_891 : Index := 5#32
  let c0_i32_859 : BitVec 32 := 0#32
  let c0_i32_851 : BitVec 32 := 0#32
  let c1_i32 : BitVec 32 := 1#32
  let arg11 : BitVec 32 := Scf.iv c0_i32_851 c1_i32 k0_t1
  let c1_i32_858 : BitVec 32 := 1#32
  let v2277 : BitVec 32 := Scalar.muli arg11 c1_i32_858
  let v2278 : BitVec 32 := Scalar.addi c0_i32_859 v2277
  let v2361 : Index := Scalar.indexCast v2278
  let c0_892 : Index := 0#32
  ![5, v2361.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x8x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x8x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RIdeal.lean ====
abbrev S6x16384x16 : Shape := ⟨3, ![6, 16384, 16]⟩
abbrev S16x1024x8 : Shape := ⟨3, ![16, 1024, 8]⟩
abbrev S16x8x768 : Shape := ⟨3, ![16, 8, 768]⟩
abbrev S16x768 : Shape := ⟨2, ![16, 768]⟩
abbrev S16 : Shape := ⟨1, ![16]⟩
abbrev S1x1x16 : Shape := ⟨3, ![1, 1, 16]⟩
abbrev S_ : Shape := ⟨0, ![]⟩
abbrev S6x16384x16x1 : Shape := ⟨4, ![6, 16384, 16, 1]⟩
abbrev S6x16384x16x2 : Shape := ⟨4, ![6, 16384, 16, 2]⟩
abbrev S6x16384x16x8 : Shape := ⟨4, ![6, 16384, 16, 8]⟩
abbrev S98304x128 : Shape := ⟨2, ![98304, 128]⟩
abbrev S6x16384x768 : Shape := ⟨3, ![6, 16384, 768]⟩
abbrev S16x1x768 : Shape := ⟨3, ![16, 1, 768]⟩
abbrev S128x768 : Shape := ⟨2, ![128, 768]⟩
abbrev S98304x768 : Shape := ⟨2, ![98304, 768]⟩
abbrev S768 : Shape := ⟨1, ![768]⟩
abbrev S1x768 : Shape := ⟨2, ![1, 768]⟩

abbrev nBuf : Space → Nat
  | .hbm => 28
  | .vmem => 5
  | .smem => 0
  | _ => 0

abbrev bufTy : (tb : Table) → Fin (tcTables nBuf tb) → BufTy
  | .hbm, ⟨0, _⟩ => ⟨S6x16384x16, .i32⟩
  | .hbm, ⟨1, _⟩ => ⟨S16x1024x8, .bf16⟩
  | .hbm, ⟨2, _⟩ => ⟨S16x8x768, .fp8e4m3⟩
  | .hbm, ⟨3, _⟩ => ⟨S16x768, .f32⟩
  | .hbm, ⟨4, _⟩ => ⟨S16x768, .f32⟩
  | .hbm, ⟨5, _⟩ => ⟨S16, .i32⟩
  | .hbm, ⟨6, _⟩ => ⟨S1x1x16, .i32⟩
  | .hbm, ⟨7, _⟩ => ⟨S_, .i32⟩
  | .hbm, ⟨8, _⟩ => ⟨S1x1x16, .i32⟩
  | .hbm, ⟨9, _⟩ => ⟨S1x1x16, .i1⟩
  | .hbm, ⟨10, _⟩ => ⟨S_, .i32⟩
  | .hbm, ⟨11, _⟩ => ⟨S1x1x16, .i32⟩
  | .hbm, ⟨12, _⟩ => ⟨S1x1x16, .i32⟩
  | .hbm, ⟨13, _⟩ => ⟨S1x1x16, .i32⟩
  | .hbm, ⟨14, _⟩ => ⟨S_, .i32⟩
  | .hbm, ⟨15, _⟩ => ⟨S6x16384x16, .i32⟩
  | .hbm, ⟨16, _⟩ => ⟨S6x16384x16, .i1⟩
  | .hbm, ⟨17, _⟩ => ⟨S_, .i32⟩
  | .hbm, ⟨18, _⟩ => ⟨S6x16384x16, .i32⟩
  | .hbm, ⟨19, _⟩ => ⟨S6x16384x16, .i32⟩
  | .hbm, ⟨20, _⟩ => ⟨S6x16384x16, .i32⟩
  | .hbm, ⟨21, _⟩ => ⟨S6x16384x16, .i32⟩
  | .hbm, ⟨22, _⟩ => ⟨S6x16384x16x1, .i32⟩
  | .hbm, ⟨23, _⟩ => ⟨S6x16384x16x1, .i32⟩
  | .hbm, ⟨24, _⟩ => ⟨S6x16384x16x2, .i32⟩
  | .hbm, ⟨25, _⟩ => ⟨S6x16384x16x8, .bf16⟩
  | .hbm, ⟨26, _⟩ => ⟨S98304x128, .bf16⟩
  | .hbm, ⟨27, _⟩ => ⟨S6x16384x768, .bf16⟩
  | .local _ .vmem, ⟨0, _⟩ => ⟨S98304x128, .bf16⟩
  | .local _ .vmem, ⟨1, _⟩ => ⟨S16x8x768, .fp8e4m3⟩
  | .local _ .vmem, ⟨2, _⟩ => ⟨S16x768, .f32⟩
  | .local _ .vmem, ⟨3, _⟩ => ⟨S16x768, .f32⟩
  | .local _ .vmem, ⟨4, _⟩ => ⟨S6x16384x768, .bf16⟩
  | _, _ => ⟨S6x16384x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S98304x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x8x768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x16384x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KFrame.lean ====
/-
  The frame of `K`: the body runs to its return from any contents, hands its five input blocks back as they were, and
  leaves the output block and the three scratches at contents nothing here reads. The first grid point alone takes the
  branch that fills the scratches (`k0_part3`), so that part is stated and proved once and the rest is run once over it.
-/
module

public import proofs.«01_k».proof.Proof.Gen.K.Frame
public import proofs.«01_k».proof.Proof.Gen.K.Skeleton
public import proofs.«01_k».proof.Proof.Gen.K.Loops
public import Idealize.ShloMosaic.Lib.Pipeline.Frame
public import Idealize.ShloMosaic.Lib.Tactic

@[expose] public section

set_option maxRecDepth 65536
set_option maxHeartbeats 4000000

noncomputable section

namespace Cert.K.Hand

open Cert.K Cert.K.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

section Body

variable (c : Dev nD) (i : grid0.Coords)
    (arg2 : Memref sig .tc .vmem S1x16x512 .i32) (harg2 : arg2.IsWhole)
    (arg3 : Memref sig .tc .vmem S16x8x1024 .bf16) (harg3 : arg3.IsWhole)
    (arg4 : Memref sig .tc .vmem S16x8x768 .fp8e4m3) (harg4 : arg4.IsWhole)
    (arg5 : Memref sig .tc .vmem S16x768 .f32) (harg5 : arg5.IsWhole)
    (arg6 : Memref sig .tc .vmem S16x768 .f32) (harg6 : arg6.IsWhole)
    (arg7 : Memref sig .tc .vmem S1x512x768 .bf16) (harg7 : arg7.IsWhole)
    (arg8 : Memref sig .tc .vmem S8x64x128 .i32) (harg8 : arg8.IsWhole)
    (arg9 : Memref sig .tc .vmem S6x64x128 .i32) (harg9 : arg9.IsWhole)
    (arg10 : Memref sig .tc .vmem S1x768 .f32) (harg10 : arg10.IsWhole)

/-- The filling loop's invariant: the three inputs it reads as they were, the two scratches it fills at some contents. -/
@[sl_loop, instance_reducible] noncomputable def loopInv_k0_t1 (arg2 : Memref sig .tc .vmem S1x16x512 .i32) (harg2 : arg2.IsWhole) (arg3 : Memref sig .tc .vmem S16x8x1024 .bf16) (harg3 : arg3.IsWhole) (arg4 : Memref sig .tc .vmem S16x8x768 .fp8e4m3) (harg4 : arg4.IsWhole) (arg5 : Memref sig .tc .vmem S16x768 .f32) (harg5 : arg5.IsWhole) (arg6 : Memref sig .tc .vmem S16x768 .f32) (harg6 : arg6.IsWhole) (arg7 : Memref sig .tc .vmem S1x512x768 .bf16) (harg7 : arg7.IsWhole) (arg8 : Memref sig .tc .vmem S8x64x128 .i32) (harg8 : arg8.IsWhole) (arg9 : Memref sig .tc .vmem S6x64x128 .i32) (harg9 : arg9.IsWhole) (arg10 : Memref sig .tc .vmem S1x768 .f32) (harg10 : arg10.IsWhole) (k0_h1 : k0_cond1 i = 1#1)
    (f3 : Buf (Elt F) (arg3.view.loc (c : Thread nD τ))) (f4 : Buf (Elt F) (arg4.view.loc (c : Thread nD τ)))
    (f5 : Buf (Elt F) (arg5.view.loc (c : Thread nD τ))) :
    Cert.K.Gen.LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 k0_h1 where
  inv := fun _ _ => iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (∃ f, (arg8.view.loc (c : Thread nD τ) ↦[arg8.view.set]{fullShare} f)) ∗ (∃ f, (arg9.view.loc (c : Thread nD τ) ↦[arg9.view.set]{fullShare} f)))
  step := fun k acc => by
    unfold k0_t1_body
    iintro ⟨H3, H4, H5, ⟨%f8, H8⟩, ⟨%f9, H9⟩⟩
    sl_exec_parts
    sl_step
    sl_close

/-- The part that holds the first point's branch, both ways: it hands back the inputs as they were and the scratches at some
    contents. -/
theorem first_part
    (f3 : Buf (Elt F) (arg3.view.loc (c : Thread nD τ))) (f4 : Buf (Elt F) (arg4.view.loc (c : Thread nD τ)))
    (f5 : Buf (Elt F) (arg5.view.loc (c : Thread nD τ))) (f6 : Buf (Elt F) (arg6.view.loc (c : Thread nD τ)))
    (f8 : Buf (Elt F) (arg8.view.loc (c : Thread nD τ))) (f9 : Buf (Elt F) (arg9.view.loc (c : Thread nD τ)))
    (f10 : Buf (Elt F) (arg10.view.loc (c : Thread nD τ)))
    (f2 : Buf (Elt F) (arg2.view.loc (c : Thread nD τ))) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) : sProp 𝕄)
      ⊢ wp frame (wpE (defs₀ (F := F)) Variants.none (c : Thread nD τ) none) Set.univ (k0_part3 (F := F) i arg2 harg2 arg3 harg3 arg4 harg4 arg5 harg5 arg6 harg6 arg7 harg7 arg8 harg8 arg9 harg9 arg10 harg10)
          (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)))) := by
  simp only [k0_part3_eq_skeleton]; unfold k0_part3_skel
  iintro ⟨H2, H3, H4, H5, H6, H8, H9, H10⟩
  by_cases k0_h1 : k0_cond1 i = 1#1
  · sl_exec
    sl_step
    sl_close
  · sl_exec
    sl_step
    sl_close

/-- The body's triple, for any continuation. -/
theorem kernelRun (x2 : S1x16x512.Idx → Elt F .i32) (x3 : S16x8x1024.Idx → Elt F .bf16) (x4 : S16x8x768.Idx → Elt F .fp8e4m3)
    (x5 : S16x768.Idx → Elt F .f32) (x6 : S16x768.Idx → Elt F .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg2 fullShare x2 ∗ owns (c : Thread nD τ) arg3 fullShare x3 ∗ owns (c : Thread nD τ) arg4 fullShare x4
              ∗ owns (c : Thread nD τ) arg5 fullShare x5 ∗ owns (c : Thread nD τ) arg6 fullShare x6
              ∗ (∃ d, owns (c : Thread nD τ) arg7 fullShare d) ∗ (∃ d, owns (c : Thread nD τ) arg8 fullShare d)
              ∗ (∃ d, owns (c : Thread nD τ) arg9 fullShare d) ∗ (∃ d, owns (c : Thread nD τ) arg10 fullShare d)) -∗ K ⟨⟩))
      ⊢ wp frame (wpE (defs₀ (F := F)) Variants.none (c : Thread nD τ) none) Set.univ (cc0_rvq_decode (F := F) i arg2 harg2 arg3 harg3 arg4 harg4 arg5 harg5 arg6 harg6 arg7 harg7 arg8 harg8 arg9 harg9 arg10 harg10) K := by
  have hfirst := first_part (F := F) c i arg2 harg2 arg3 harg3 arg4 harg4 arg5 harg5 arg6 harg6 arg7 harg7 arg8 harg8 arg9 harg9 arg10 harg10
  simp only [cc0_rvq_decode_eq_skeleton]; unfold cc0_rvq_decode_skel
  unfold owns
  iintro ⟨⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, ⟨%d10, %f10, -, H10⟩, Hk⟩
  subst e2 e3 e4 e5 e6
  sl_exec_parts
  sl_step
  iapply Hk
  sl_close

end Body

/-! ## The proof data and the body obligation -/

variable [∀ e, Nonempty (Elt F e)] (m : (ℓ : Loc nD τ sig) → Buf (Elt F) ℓ) (ρ : Dev nD → PrngReg)

/-- The one output window is forgotten: nothing here reads what the kernel leaves in it. -/
def forgets0 : Fin 6 → Bool := ![false, false, false, false, false, true]

/-- The invariant between points, conjunct by conjunct: the three scratches at some contents, the generator register. -/
theorem PhiA0_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => Pipeline.Dat.unnamed (cfg := cfg0) 5 t
  Φ _ := Pipeline.ΦA spec0 c
  q _ := fullShare
  owed _ := 0

theorem A_eq (c : Dev nD) (w : Fin cfg0.W) : (dats m 0 c).A w = V m c (Pipeline.arrRef spec0 w) := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ (∃ d, owns (c : Thread nD τ) (st0_5 t) fullShare d))

/-- The body at a point: each input block as it was fetched, the scratches out of the invariant and back into it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  simp only [before0_0_of m (dats m 0 c) (A_eq m c 0) (fun _ => rfl), before0_1_of m (dats m 0 c) (A_eq m c 1) (fun _ => rfl),
    before0_2_of m (dats m 0 c) (A_eq m c 2) (fun _ => rfl), before0_3_of m (dats m 0 c) (A_eq m c 3) (fun _ => rfl),
    before0_4_of m (dats m 0 c) (A_eq m c 4) (fun _ => rfl)]
  iintro ⟨⟨⟨H8, H9, H10⟩, Hg⟩, HO, ⟨%d0, H0⟩, ⟨%d1, H1⟩, ⟨%d2, H2⟩, ⟨%d3, H3⟩, ⟨%d4, H4⟩, H5⟩
  iapply (kernelRun c (grid0.coords t) _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [H8]; · iexact H8
  isplitl [H9]; · iexact H9
  isplitl [H10]; · iexact H10
  iintro ⟨H0, H1, H2, H3, H4, H5, H8, H9, H10⟩
  isplitl [H8 H9 H10 Hg]
  · isplitl [H8 H9 H10]
    · isplitl [H8]; · iexact H8
      isplitl [H9]; · iexact H9
      iexact H10
    iexact Hg
  isplitl [HO]; · iexact HO
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m ρ}

theorem arr_in {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (Pipeline.RDat.FramePost.arr_in h c 2 rfl).trans ((A_eq m c 2).trans (V_main_arg2 m c)),
    (Pipeline.RDat.FramePost.arr_in h c 3 rfl).trans ((A_eq m c 3).trans (V_main_arg3 m c)),
    (Pipeline.RDat.FramePost.arr_in h c 4 rfl).trans ((A_eq m c 4).trans (V_main_arg4 m c))⟩

variable (m ρ)

/-- From any memory with zero counters the program runs to its end, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => arr_in h.1 c, h.2⟩) (run_main m ρ)

end Cert.K.Hand

end
-- ==== Proof.KIdealFill.lean ====
/-
  What the first grid point's filling loop leaves in the two scratches it fills, as functions of the three arrays it reads.
-/
module

public import proofs.«01_k».proof.Proof.Gen.KIdeal.Frame
public import proofs.«01_k».proof.Proof.Gen.KIdeal.Skeleton
public import proofs.«01_k».proof.Proof.Gen.KIdeal.Loops
public import Idealize.ShloMosaic.Lib.Pipeline.Frame
public import Idealize.ShloMosaic.Lib.Tactic
public import Idealize.ShloMosaic.Lib.PointwiseCore
public import Idealize.ShloMosaic.Lib.Bf16Pair
public import Idealize.ShloMosaic.Lib.Writes

@[expose] public section

set_option maxRecDepth 65536
set_option maxHeartbeats 4000000

noncomputable section

namespace Cert.KIdeal.Hand

open Cert.KIdeal Cert.KIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem lt16 (n : ℕ) : n % 16 < 16 := Nat.mod_lt _ (by decide)

theorem lt_dim {a h : ℕ} (ha : a < 64) (hh : h < 2) : 2 * (a / 16) + h < 8 := by omega

/-- The lookup table the scratch holds: place `(s, 16·wd + l, h, i)` is entry `s·128 + i` of row `2·wd + h` of level `l`'s codebook. -/
def Tab (x3 : S16x8x1024.Idx → Elt F .bf16) : S8x64x2x128.Idx → Elt F .bf16 := fun j =>
  x3 (ix3 ⟨(j 1).val % 16, lt16 _⟩ ⟨2 * ((j 1).val / 16) + (j 2).val, lt_dim (j 1).isLt (j 2).isLt⟩
    ⟨(j 0).val * 128 + (j 3).val, by have h0 : (j 0).val < 8 := (j 0).isLt; have h3 : (j 3).val < 128 := (j 3).isLt; omega⟩)

/-- One level's weights, dequantised: its eight rows of codes times its row of scales, as the body computes them. -/
def Wl (x4 : S16x8x768.Idx → Elt F .fp8e4m3) (x5 : S16x768.Idx → Elt F .f32) (l : Fin 16) : S8x768.Idx → Elt F .bf16 :=
  k0_pay17 (F := F) (fun i => x5 (ix2 l (i 1))) (fun i => x4 (ix3 l (i 1) (i 2)))

/-- The weights the scratch holds: place `(q, 16·wd + l, h, i)` is entry `q·128 + i` of row `2·wd + h` of level `l`'s. -/
def Wts (x4 : S16x8x768.Idx → Elt F .fp8e4m3) (x5 : S16x768.Idx → Elt F .f32) : S6x64x2x128.Idx → Elt F .bf16 := fun j =>
  Wl x4 x5 ⟨(j 1).val % 16, lt16 _⟩ (ix2 ⟨2 * ((j 1).val / 16) + (j 2).val, lt_dim (j 1).isLt (j 2).isLt⟩
    ⟨(j 0).val * 128 + (j 3).val, by have h0 : (j 0).val < 6 := (j 0).isLt; have h3 : (j 3).val < 128 := (j 3).isLt; omega⟩)

/-- Eight rows of `1024` split by parity, a stretch of 128 columns taken of each half, and the halves interleaved: the stretch of the rows. -/
theorem words_table {α : Type} (x : S8x1024.Idx → α) (o : ℕ) (ho : o + 128 ≤ 1024) (hs : S4x1024.Slices ![0, o] S4x128) (j : S1x4x2x128.Idx) :
    interleaveRows S1x4x2x128
      (shapeCast S1x4x1x128 (shapeCast S1x4x128 (extractStridedSlice S4x128 ![0, o] (rowsOfParity 0 S4x1024 x bitcasts_S8x1024_w16_S4x1024_w32) hs)
        shapeCasts_S4x128_S1x4x128) shapeCasts_S1x4x128_S1x4x1x128)
      (shapeCast S1x4x1x128 (shapeCast S1x4x128 (extractStridedSlice S4x128 ![0, o] (rowsOfParity 1 S4x1024 x bitcasts_S8x1024_w16_S4x1024_w32) hs)
        shapeCasts_S4x128_S1x4x128) shapeCasts_S1x4x128_S1x4x1x128)
      bitcasts_S1x4x2x128_w16_S1x4x1x128_w32 j
      = x (ix2 ⟨2 * (j 1).val + (j 2).val, by have h1 : (j 1).val < 4 := (j 1).isLt; have h2 : (j 2).val < 2 := (j 2).isLt; omega⟩
          ⟨o + (j 3).val, by have h3 : (j 3).val < 128 := (j 3).isLt; omega⟩) := by
  have h2 : (j 2).val < 2 := (j 2).isLt
  pointwise
  rcases (show (j 2).val = 0 ∨ (j 2).val = 1 by omega) with h | h <;> simp [h]

/-- The same of eight rows of `768` split by parity, a stretch of 128 columns taken of each half, and the halves interleaved: the stretch of the rows. -/
theorem words_weights {α : Type} (x : S8x768.Idx → α) (o : ℕ) (ho : o + 128 ≤ 768) (hs : S4x768.Slices ![0, o] S4x128) (j : S1x4x2x128.Idx) :
    interleaveRows S1x4x2x128
      (shapeCast S1x4x1x128 (shapeCast S1x4x128 (extractStridedSlice S4x128 ![0, o] (rowsOfParity 0 S4x768 x bitcasts_S8x768_w16_S4x768_w32) hs)
        shapeCasts_S4x128_S1x4x128) shapeCasts_S1x4x128_S1x4x1x128)
      (shapeCast S1x4x1x128 (shapeCast S1x4x128 (extractStridedSlice S4x128 ![0, o] (rowsOfParity 1 S4x768 x bitcasts_S8x768_w16_S4x768_w32) hs)
        shapeCasts_S4x128_S1x4x128) shapeCasts_S1x4x128_S1x4x1x128)
      bitcasts_S1x4x2x128_w16_S1x4x1x128_w32 j
      = x (ix2 ⟨2 * (j 1).val + (j 2).val, by have h1 : (j 1).val < 4 := (j 1).isLt; have h2 : (j 2).val < 2 := (j 2).isLt; omega⟩
          ⟨o + (j 3).val, by have h3 : (j 3).val < 128 := (j 3).isLt; omega⟩) := by
  have h2 : (j 2).val < 2 := (j 2).isLt
  pointwise
  rcases (show (j 2).val = 0 ∨ (j 2).val = 1 by omega) with h | h <;> simp [h]

/-- The places one store of a trip writes: stretch `s` of the words whose number is `k` modulo the number of levels. -/
theorem mem_tab (r : Rect S8x64x2x128) (s k : ℕ) (hoff : r.off = ![s, k, 0, 0]) (hsize : r.size = S1x4x2x128.size) (hst : r.stride = ![1, 16, 1, 1])
    (hk : k < 16) (y : S8x64x2x128.Idx) : y ∈ r.set ↔ (y 0).val = s ∧ (y 1).val % 16 = k := by
  have h1 : (y 1).val < 64 := (y 1).isLt
  have h2 : (y 2).val < 2 := (y 2).isLt
  have h3 : (y 3).val < 128 := (y 3).isLt
  rw [LoadRect.mem_set, Fin.forall_fin_succ, Fin.forall_fin_succ, Fin.forall_fin_succ, Fin.forall_fin_succ]
  rw [hoff, hsize, hst]
  constructor
  · rintro ⟨⟨a, ha, ea⟩, ⟨b, hb, eb⟩, -⟩
    have ha' : a < 1 := ha
    have ea' : (y 0).val = s + 1 * a := ea
    have hb' : b < 4 := hb
    have eb' : (y 1).val = k + 16 * b := eb
    omega
  · rintro ⟨e0, e1⟩
    refine ⟨⟨0, show 0 < 1 by omega, show (y 0).val = s + 1 * 0 by omega⟩,
      ⟨(y 1).val / 16, show (y 1).val / 16 < 4 by omega, show (y 1).val = k + 16 * ((y 1).val / 16) by omega⟩,
      ⟨(y 2).val, show (y 2).val < 2 by omega, show (y 2).val = 0 + 1 * (y 2).val by omega⟩,
      ⟨(y 3).val, show (y 3).val < 128 by omega, show (y 3).val = 0 + 1 * (y 3).val by omega⟩, fun a => a.elim0⟩

/-- The places one store of a trip writes: stretch `s` of the words whose number is `k` modulo the number of levels. -/
theorem mem_wts (r : Rect S6x64x2x128) (s k : ℕ) (hoff : r.off = ![s, k, 0, 0]) (hsize : r.size = S1x4x2x128.size) (hst : r.stride = ![1, 16, 1, 1])
    (hk : k < 16) (y : S6x64x2x128.Idx) : y ∈ r.set ↔ (y 0).val = s ∧ (y 1).val % 16 = k := by
  have h1 : (y 1).val < 64 := (y 1).isLt
  have h2 : (y 2).val < 2 := (y 2).isLt
  have h3 : (y 3).val < 128 := (y 3).isLt
  rw [LoadRect.mem_set, Fin.forall_fin_succ, Fin.forall_fin_succ, Fin.forall_fin_succ, Fin.forall_fin_succ]
  rw [hoff, hsize, hst]
  constructor
  · rintro ⟨⟨a, ha, ea⟩, ⟨b, hb, eb⟩, -⟩
    have ha' : a < 1 := ha
    have ea' : (y 0).val = s + 1 * a := ea
    have hb' : b < 4 := hb
    have eb' : (y 1).val = k + 16 * b := eb
    omega
  · rintro ⟨e0, e1⟩
    refine ⟨⟨0, show 0 < 1 by omega, show (y 0).val = s + 1 * 0 by omega⟩,
      ⟨(y 1).val / 16, show (y 1).val / 16 < 4 by omega, show (y 1).val = k + 16 * ((y 1).val / 16) by omega⟩,
      ⟨(y 2).val, show (y 2).val < 2 by omega, show (y 2).val = 0 + 1 * (y 2).val by omega⟩,
      ⟨(y 3).val, show (y 3).val < 128 by omega, show (y 3).val = 0 + 1 * (y 3).val by omega⟩, fun a => a.elim0⟩

/-- One store's payload is the table at the places it writes. -/
theorem tab_piece (x3 : S16x8x1024.Idx → Elt F .bf16) (k : ℕ) (hk : k < 16) (v : S1x8x1024.Idx → Elt F .bf16)
    (hv : ∀ i, v i = x3 (ix3 ⟨k, hk⟩ (i 1) (i 2))) (s : ℕ) (r : Rect S8x64x2x128) (hoff : r.off = ![s, k, 0, 0])
    (hst : r.stride = ![1, 16, 1, 1]) (x : r.shape.Idx) (a : Fin 8) (b : Fin 1024) (x1 x2 x3' : ℕ)
    (h1 : x1 = (x 1).val) (h2 : x2 = (x 2).val) (h3 : x3' = (x 3).val) (hx0 : (x 0).val = 0) (hx2 : x2 < 2)
    (ha : a.val = 2 * x1 + x2) (hb : b.val = 128 * s + x3') :
    k0_pay2 (F := F) v (ix2 a b) = Tab x3 (r.emb x) := by
  have e0 : ((r.emb x) 0).val = s := by
    show r.off 0 + r.stride 0 * (x 0).val = s
    rw [hoff, hst, hx0]; simp
  have e1 : ((r.emb x) 1).val = k + 16 * x1 := by
    show r.off 1 + r.stride 1 * (x 1).val = _
    rw [hoff, hst, h1]; rfl
  have e2 : ((r.emb x) 2).val = x2 := by
    show r.off 2 + r.stride 2 * (x 2).val = _
    rw [hoff, hst, h2]; simp
  have e3 : ((r.emb x) 3).val = x3' := by
    show r.off 3 + r.stride 3 * (x 3).val = _
    rw [hoff, hst, h3]; simp
  have hp : k0_pay2 (F := F) v (ix2 a b) = v (ix3 0 a b) := by
    pointwise [k0_pay2]
  rw [hp, hv]
  unfold Tab
  congr 1
  have q1 : (k + 16 * x1) % 16 = k := by omega
  have q2 : 2 * ((k + 16 * x1) / 16) + x2 = a.val := by omega
  funext d
  fin_cases d
  · apply Fin.ext; show k = ((r.emb x) 1).val % 16; rw [e1]; omega
  · apply Fin.ext; show a.val = 2 * (((r.emb x) 1).val / 16) + ((r.emb x) 2).val; rw [e1, e2]; omega
  · apply Fin.ext; show b.val = ((r.emb x) 0).val * 128 + ((r.emb x) 3).val; rw [e0, e3]; omega

/-- One store's payload is the weights at the places it writes. -/
theorem wts_piece (x4 : S16x8x768.Idx → Elt F .fp8e4m3) (x5 : S16x768.Idx → Elt F .f32) (k : ℕ) (hk : k < 16)
    (v : S1x768.Idx → Elt F .f32) (hv : v = fun i => x5 (ix2 ⟨k, hk⟩ (i 1)))
    (w : S1x8x768.Idx → Elt F .fp8e4m3) (hw : w = fun i => x4 (ix3 ⟨k, hk⟩ (i 1) (i 2))) (s : ℕ) (r : Rect S6x64x2x128) (hoff : r.off = ![s, k, 0, 0])
    (hst : r.stride = ![1, 16, 1, 1]) (x : r.shape.Idx) (a : Fin 8) (b : Fin 768) (x1 x2 x3' : ℕ)
    (h1 : x1 = (x 1).val) (h2 : x2 = (x 2).val) (h3 : x3' = (x 3).val) (hx0 : (x 0).val = 0) (hx2 : x2 < 2)
    (ha : a.val = 2 * x1 + x2) (hb : b.val = 128 * s + x3') :
    k0_pay17 (F := F) v w (ix2 a b) = Wts x4 x5 (r.emb x) := by
  have e0 : ((r.emb x) 0).val = s := by
    show r.off 0 + r.stride 0 * (x 0).val = s
    rw [hoff, hst, hx0]; simp
  have e1 : ((r.emb x) 1).val = k + 16 * x1 := by
    show r.off 1 + r.stride 1 * (x 1).val = _
    rw [hoff, hst, h1]; rfl
  have e2 : ((r.emb x) 2).val = x2 := by
    show r.off 2 + r.stride 2 * (x 2).val = _
    rw [hoff, hst, h2]; simp
  have e3 : ((r.emb x) 3).val = x3' := by
    show r.off 3 + r.stride 3 * (x 3).val = _
    rw [hoff, hst, h3]; simp
  unfold Wts Wl
  have el : (⟨((r.emb x) 1).val % 16, lt16 _⟩ : Fin 16) = ⟨k, hk⟩ := Fin.ext (by show ((r.emb x) 1).val % 16 = k; rw [e1]; omega)
  rw [el, hv, hw]
  congr 1
  funext d
  fin_cases d
  · apply Fin.ext; show a.val = 2 * (((r.emb x) 1).val / 16) + ((r.emb x) 2).val; rw [e1, e2]; omega
  · apply Fin.ext; show b.val = ((r.emb x) 0).val * 128 + ((r.emb x) 3).val; rw [e0, e3]; omega

/-- What a trip loads of each of the three arrays: the rows of its own level. -/
theorem load_table (k : Fin k0_t1_loop.trips) (hk : k.val < 16) (arg3 : Memref sig .tc .vmem S16x8x1024 .bf16) (f3 : arg3.view.ty.Contents (Elt F)) (inb) (i : S1x8x1024.Idx) :
    View.readAt (Elt F) arg3.view (Rect.unit (s := S16x8x1024) (k0_off1 k) S1x8x1024.size inb).toLoadRect f3 i
      = arg3.view.read (Elt F) f3 (ix3 ⟨k.val, hk⟩ (i 1) (i 2)) := by
  have h0 : (i 0).val < 1 := (i 0).isLt
  show arg3.view.read (Elt F) f3 _ = _
  congr 1
  funext d
  fin_cases d
  · apply Fin.ext; show k0_off1 k 0 + 1 * (i 0).val = k.val; have e : k0_off1 k 0 = k.val := congrFun (k0_off1_eq k) 0; omega
  · apply Fin.ext; show k0_off1 k 1 + 1 * (i 1).val = (i 1).val; have e : k0_off1 k 1 = 0 := congrFun (k0_off1_eq k) 1; omega
  · apply Fin.ext; show k0_off1 k 2 + 1 * (i 2).val = (i 2).val; have e : k0_off1 k 2 = 0 := congrFun (k0_off1_eq k) 2; omega

theorem load_scale (k : Fin k0_t1_loop.trips) (hk : k.val < 16) (arg5 : Memref sig .tc .vmem S16x768 .f32) (f5 : arg5.view.ty.Contents (Elt F)) (inb) :
    View.readAt (Elt F) arg5.view (Rect.unit (s := S16x768) (k0_off10 k) S1x768.size inb).toLoadRect f5
      = fun i : S1x768.Idx => arg5.view.read (Elt F) f5 (ix2 ⟨k.val, hk⟩ (i 1)) := by
  funext i
  have h0 : (i 0).val < 1 := (i 0).isLt
  show arg5.view.read (Elt F) f5 _ = _
  congr 1
  funext d
  fin_cases d
  · apply Fin.ext; show k0_off10 k 0 + 1 * (i 0).val = k.val; have e : k0_off10 k 0 = k.val := congrFun (k0_off10_eq k) 0; omega
  · apply Fin.ext; show k0_off10 k 1 + 1 * (i 1).val = (i 1).val; have e : k0_off10 k 1 = 0 := congrFun (k0_off10_eq k) 1; omega

theorem load_codes (k : Fin k0_t1_loop.trips) (hk : k.val < 16) (arg4 : Memref sig .tc .vmem S16x8x768 .fp8e4m3) (f4 : arg4.view.ty.Contents (Elt F)) (inb) :
    View.readAt (Elt F) arg4.view (Rect.unit (s := S16x8x768) (k0_off11 k) S1x8x768.size inb).toLoadRect f4
      = fun i : S1x8x768.Idx => arg4.view.read (Elt F) f4 (ix3 ⟨k.val, hk⟩ (i 1) (i 2)) := by
  funext i
  have h0 : (i 0).val < 1 := (i 0).isLt
  show arg4.view.read (Elt F) f4 _ = _
  congr 1
  funext d
  fin_cases d
  · apply Fin.ext; show k0_off11 k 0 + 1 * (i 0).val = k.val; have e : k0_off11 k 0 = k.val := congrFun (k0_off11_eq k) 0; omega
  · apply Fin.ext; show k0_off11 k 1 + 1 * (i 1).val = (i 1).val; have e : k0_off11 k 1 = 0 := congrFun (k0_off11_eq k) 1; omega
  · apply Fin.ext; show k0_off11 k 2 + 1 * (i 2).val = (i 2).val; have e : k0_off11 k 2 = 0 := congrFun (k0_off11_eq k) 2; omega

section Trip

/-- Eight rows split by parity, a stretch of 128 columns taken of each half, and the halves interleaved again. -/
abbrev stretch1024 {α : Type} (x : S8x1024.Idx → α) (o : ℕ) (hs : S4x1024.Slices ![0, o] S4x128) : S1x4x2x128.Idx → α :=
  interleaveRows S1x4x2x128
      (shapeCast S1x4x1x128 (shapeCast S1x4x128 (extractStridedSlice S4x128 ![0, o] (rowsOfParity 0 S4x1024 x bitcasts_S8x1024_w16_S4x1024_w32) hs)
        shapeCasts_S4x128_S1x4x128) shapeCasts_S1x4x128_S1x4x1x128)
      (shapeCast S1x4x1x128 (shapeCast S1x4x128 (extractStridedSlice S4x128 ![0, o] (rowsOfParity 1 S4x1024 x bitcasts_S8x1024_w16_S4x1024_w32) hs)
        shapeCasts_S4x128_S1x4x128) shapeCasts_S1x4x128_S1x4x1x128)
      bitcasts_S1x4x2x128_w16_S1x4x1x128_w32

/-- Eight rows split by parity, a stretch of 128 columns taken of each half, and the halves interleaved again. -/
abbrev stretch768 {α : Type} (x : S8x768.Idx → α) (o : ℕ) (hs : S4x768.Slices ![0, o] S4x128) : S1x4x2x128.Idx → α :=
  interleaveRows S1x4x2x128
      (shapeCast S1x4x1x128 (shapeCast S1x4x128 (extractStridedSlice S4x128 ![0, o] (rowsOfParity 0 S4x768 x bitcasts_S8x768_w16_S4x768_w32) hs)
        shapeCasts_S4x128_S1x4x128) shapeCasts_S1x4x128_S1x4x1x128)
      (shapeCast S1x4x1x128 (shapeCast S1x4x128 (extractStridedSlice S4x128 ![0, o] (rowsOfParity 1 S4x768 x bitcasts_S8x768_w16_S4x768_w32) hs)
        shapeCasts_S4x128_S1x4x128) shapeCasts_S1x4x128_S1x4x1x128)
      bitcasts_S1x4x2x128_w16_S1x4x1x128_w32

/-- One trip's stores into this scratch, at any place: the level the trip fills there, and the rest as they were. -/
theorem trip_table {sp : Space} (v : View sig .tc sp S8x64x2x128 .bf16) (f : v.ty.Contents (Elt F)) (x3 : S16x8x1024.Idx → Elt F .bf16)
    (k : Fin k0_t1_loop.trips) (hk : k.val < 16) (ld : S1x8x1024.Idx → Elt F .bf16) (hld : ∀ i, ld i = x3 (ix3 ⟨k.val, hk⟩ (i 1) (i 2))) i0 i1 i2 i3 i4 i5 i6 i7 (h0 : S4x1024.Slices ![0, 0] S4x128) (h1 : S4x1024.Slices ![0, 128] S4x128) (h2 : S4x1024.Slices ![0, 256] S4x128) (h3 : S4x1024.Slices ![0, 384] S4x128) (h4 : S4x1024.Slices ![0, 512] S4x128) (h5 : S4x1024.Slices ![0, 640] S4x128) (h6 : S4x1024.Slices ![0, 768] S4x128) (h7 : S4x1024.Slices ![0, 896] S4x128)
    (e : ∀ j : S8x64x2x128.Idx, (j 1).val % 16 < k.val → v.read (Elt F) f j = Tab x3 j)
    (j : S8x64x2x128.Idx) (hj : (j 1).val % 16 < k.val + 1) :
    v.read (Elt F) (v.writes (Elt F) f [⟨{ off := k0_off9 k, size := S1x4x2x128.size, stride := ![1, 16, 1, 1], inb := i7, stride_pos := spos_1_16_1_1 }, stretch1024 (k0_pay2 (F := F) ld) 896 h7⟩,
        ⟨{ off := k0_off8 k, size := S1x4x2x128.size, stride := ![1, 16, 1, 1], inb := i6, stride_pos := spos_1_16_1_1 }, stretch1024 (k0_pay2 (F := F) ld) 768 h6⟩,
        ⟨{ off := k0_off7 k, size := S1x4x2x128.size, stride := ![1, 16, 1, 1], inb := i5, stride_pos := spos_1_16_1_1 }, stretch1024 (k0_pay2 (F := F) ld) 640 h5⟩,
        ⟨{ off := k0_off6 k, size := S1x4x2x128.size, stride := ![1, 16, 1, 1], inb := i4, stride_pos := spos_1_16_1_1 }, stretch1024 (k0_pay2 (F := F) ld) 512 h4⟩,
        ⟨{ off := k0_off5 k, size := S1x4x2x128.size, stride := ![1, 16, 1, 1], inb := i3, stride_pos := spos_1_16_1_1 }, stretch1024 (k0_pay2 (F := F) ld) 384 h3⟩,
        ⟨{ off := k0_off4 k, size := S1x4x2x128.size, stride := ![1, 16, 1, 1], inb := i2, stride_pos := spos_1_16_1_1 }, stretch1024 (k0_pay2 (F := F) ld) 256 h2⟩,
        ⟨{ off := k0_off3 k, size := S1x4x2x128.size, stride := ![1, 16, 1, 1], inb := i1, stride_pos := spos_1_16_1_1 }, stretch1024 (k0_pay2 (F := F) ld) 128 h1⟩,
        ⟨{ off := k0_off2 k, size := S1x4x2x128.size, stride := ![1, 16, 1, 1], inb := i0, stride_pos := spos_1_16_1_1 }, stretch1024 (k0_pay2 (F := F) ld) 0 h0⟩]) j = Tab x3 j := by
  by_cases hjk : (j 1).val % 16 = k.val
  · refine View.read_writes_apply_of_pieces _ _ (Tab x3) _ ?_ j ?_
    · refine (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (fun p hp => absurd hp List.not_mem_nil)⟩)⟩)⟩)⟩)⟩)⟩)⟩)⟩)
      · intro x
        have hx0 : (x 0).val < 1 := (x 0).isLt
        have hx2 : (x 2).val < 2 := (x 2).isLt
        refine (words_table (k0_pay2 (F := F) ld) 896 (by decide) h7 x).trans ?_
        refine tab_piece x3 k.val hk ld hld 7 _ ?_ ?_ x _ _ (x 1).val (x 2).val (x 3).val ?_ ?_ ?_ ?_ hx2 ?_ ?_
        · exact k0_off9_eq k
        · rfl
        · rfl
        · rfl
        · rfl
        · omega
        · rfl
        · show 896 + (x 3).val = 128 * 7 + (x 3).val; omega
      · intro x
        have hx0 : (x 0).val < 1 := (x 0).isLt
        have hx2 : (x 2).val < 2 := (x 2).isLt
        refine (words_table (k0_pay2 (F := F) ld) 768 (by decide) h6 x).trans ?_
        refine tab_piece x3 k.val hk ld hld 6 _ ?_ ?_ x _ _ (x 1).val (x 2).val (x 3).val ?_ ?_ ?_ ?_ hx2 ?_ ?_
        · exact k0_off8_eq k
        · rfl
        · rfl
        · rfl
        · rfl
        · omega
        · rfl
        · show 768 + (x 3).val = 128 * 6 + (x 3).val; omega
      · intro x
        have hx0 : (x 0).val < 1 := (x 0).isLt
        have hx2 : (x 2).val < 2 := (x 2).isLt
        refine (words_table (k0_pay2 (F := F) ld) 640 (by decide) h5 x).trans ?_
        refine tab_piece x3 k.val hk ld hld 5 _ ?_ ?_ x _ _ (x 1).val (x 2).val (x 3).val ?_ ?_ ?_ ?_ hx2 ?_ ?_
        · exact k0_off7_eq k
        · rfl
        · rfl
        · rfl
        · rfl
        · omega
        · rfl
        · show 640 + (x 3).val = 128 * 5 + (x 3).val; omega
      · intro x
        have hx0 : (x 0).val < 1 := (x 0).isLt
        have hx2 : (x 2).val < 2 := (x 2).isLt
        refine (words_table (k0_pay2 (F := F) ld) 512 (by decide) h4 x).trans ?_
        refine tab_piece x3 k.val hk ld hld 4 _ ?_ ?_ x _ _ (x 1).val (x 2).val (x 3).val ?_ ?_ ?_ ?_ hx2 ?_ ?_
        · exact k0_off6_eq k
        · rfl
        · rfl
        · rfl
        · rfl
        · omega
        · rfl
        · show 512 + (x 3).val = 128 * 4 + (x 3).val; omega
      · intro x
        have hx0 : (x 0).val < 1 := (x 0).isLt
        have hx2 : (x 2).val < 2 := (x 2).isLt
        refine (words_table (k0_pay2 (F := F) ld) 384 (by decide) h3 x).trans ?_
        refine tab_piece x3 k.val hk ld hld 3 _ ?_ ?_ x _ _ (x 1).val (x 2).val (x 3).val ?_ ?_ ?_ ?_ hx2 ?_ ?_
        · exact k0_off5_eq k
        · rfl
        · rfl
        · rfl
        · rfl
        · omega
        · rfl
        · show 384 + (x 3).val = 128 * 3 + (x 3).val; omega
      · intro x
        have hx0 : (x 0).val < 1 := (x 0).isLt
        have hx2 : (x 2).val < 2 := (x 2).isLt
        refine (words_table (k0_pay2 (F := F) ld) 256 (by decide) h2 x).trans ?_
        refine tab_piece x3 k.val hk ld hld 2 _ ?_ ?_ x _ _ (x 1).val (x 2).val (x 3).val ?_ ?_ ?_ ?_ hx2 ?_ ?_
        · exact k0_off4_eq k
        · rfl
        · rfl
        · rfl
        · rfl
        · omega
        · rfl
        · show 256 + (x 3).val = 128 * 2 + (x 3).val; omega
      · intro x
        have hx0 : (x 0).val < 1 := (x 0).isLt
        have hx2 : (x 2).val < 2 := (x 2).isLt
        refine (words_table (k0_pay2 (F := F) ld) 128 (by decide) h1 x).trans ?_
        refine tab_piece x3 k.val hk ld hld 1 _ ?_ ?_ x _ _ (x 1).val (x 2).val (x 3).val ?_ ?_ ?_ ?_ hx2 ?_ ?_
        · exact k0_off3_eq k
        · rfl
        · rfl
        · rfl
        · rfl
        · omega
        · rfl
        · show 128 + (x 3).val = 128 * 1 + (x 3).val; omega
      · intro x
        have hx0 : (x 0).val < 1 := (x 0).isLt
        have hx2 : (x 2).val < 2 := (x 2).isLt
        refine (words_table (k0_pay2 (F := F) ld) 0 (by decide) h0 x).trans ?_
        refine tab_piece x3 k.val hk ld hld 0 _ ?_ ?_ x _ _ (x 1).val (x 2).val (x 3).val ?_ ?_ ?_ ?_ hx2 ?_ ?_
        · exact k0_off2_eq k
        · rfl
        · rfl
        · rfl
        · rfl
        · omega
        · rfl
        · show 0 + (x 3).val = 128 * 0 + (x 3).val; omega
    · have h0 : (j 0).val < 8 := (j 0).isLt
      rcases (show (j 0).val = 0 ∨ (j 0).val = 1 ∨ (j 0).val = 2 ∨ (j 0).val = 3 ∨ (j 0).val = 4 ∨ (j 0).val = 5 ∨ (j 0).val = 6 ∨ (j 0).val = 7 by omega) with h | h | h | h | h | h | h | h
      · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
        refine (mem_tab _ 0 k.val ?_ ?_ ?_ hk j).2 ⟨h, hjk⟩
        · exact k0_off2_eq k
        · rfl
        · rfl
      · refine ⟨_, (List.mem_cons_of_mem _ (List.mem_cons_of_mem _ (List.mem_cons_of_mem _ (List.mem_cons_of_mem _ (List.mem_cons_of_mem _ (List.mem_cons_of_mem _ List.mem_cons_self)))))), ?_⟩
        refine (mem_tab _ 1 k.val ?_ ?_ ?_ hk j).2 ⟨h, hjk⟩
        · exact k0_off3_eq k
        · rfl
        · rfl
      · refine ⟨_, (List.mem_cons_of_mem _ (List.mem_cons_of_mem _ (List.mem_cons_of_mem _ (List.mem_cons_of_mem _ (List.mem_cons_of_mem _ List.mem_cons_self))))), ?_⟩
        refine (mem_tab _ 2 k.val ?_ ?_ ?_ hk j).2 ⟨h, hjk⟩
        · exact k0_off4_eq k
        · rfl
        · rfl
      · refine ⟨_, (List.mem_cons_of_mem _ (List.mem_cons_of_mem _ (List.mem_cons_of_mem _ (List.mem_cons_of_mem _ List.mem_cons_self)))), ?_⟩
        refine (mem_tab _ 3 k.val ?_ ?_ ?_ hk j).2 ⟨h, hjk⟩
        · exact k0_off5_eq k
        · rfl
        · rfl
      · refine ⟨_, (List.mem_cons_of_mem _ (List.mem_cons_of_mem _ (List.mem_cons_of_mem _ List.mem_cons_self))), ?_⟩
        refine (mem_tab _ 4 k.val ?_ ?_ ?_ hk j).2 ⟨h, hjk⟩
        · exact k0_off6_eq k
        · rfl
        · rfl
      · refine ⟨_, (List.mem_cons_of_mem _ (List.mem_cons_of_mem _ List.mem_cons_self)), ?_⟩
        refine (mem_tab _ 5 k.val ?_ ?_ ?_ hk j).2 ⟨h, hjk⟩
        · exact k0_off7_eq k
        · rfl
        · rfl
      · refine ⟨_, (List.mem_cons_of_mem _ List.mem_cons_self), ?_⟩
        refine (mem_tab _ 6 k.val ?_ ?_ ?_ hk j).2 ⟨h, hjk⟩
        · exact k0_off8_eq k
        · rfl
        · rfl
      · refine ⟨_, List.mem_cons_self, ?_⟩
        refine (mem_tab _ 7 k.val ?_ ?_ ?_ hk j).2 ⟨h, hjk⟩
        · exact k0_off9_eq k
        · rfl
        · rfl
  · refine (View.read_writes_apply_of_forall_not_mem v f j _ ?_).trans (e j (by omega))
    · refine (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (fun p hp => absurd hp List.not_mem_nil)⟩)⟩)⟩)⟩)⟩)⟩)⟩)⟩)
      · intro h
        refine hjk ((mem_tab _ 7 k.val ?_ ?_ ?_ hk j).1 h).2
        · exact k0_off9_eq k
        · rfl
        · rfl
      · intro h
        refine hjk ((mem_tab _ 6 k.val ?_ ?_ ?_ hk j).1 h).2
        · exact k0_off8_eq k
        · rfl
        · rfl
      · intro h
        refine hjk ((mem_tab _ 5 k.val ?_ ?_ ?_ hk j).1 h).2
        · exact k0_off7_eq k
        · rfl
        · rfl
      · intro h
        refine hjk ((mem_tab _ 4 k.val ?_ ?_ ?_ hk j).1 h).2
        · exact k0_off6_eq k
        · rfl
        · rfl
      · intro h
        refine hjk ((mem_tab _ 3 k.val ?_ ?_ ?_ hk j).1 h).2
        · exact k0_off5_eq k
        · rfl
        · rfl
      · intro h
        refine hjk ((mem_tab _ 2 k.val ?_ ?_ ?_ hk j).1 h).2
        · exact k0_off4_eq k
        · rfl
        · rfl
      · intro h
        refine hjk ((mem_tab _ 1 k.val ?_ ?_ ?_ hk j).1 h).2
        · exact k0_off3_eq k
        · rfl
        · rfl
      · intro h
        refine hjk ((mem_tab _ 0 k.val ?_ ?_ ?_ hk j).1 h).2
        · exact k0_off2_eq k
        · rfl
        · rfl

/-- One trip's stores into this scratch, at any place: the level the trip fills there, and the rest as they were. -/
theorem trip_weights {sp : Space} (v : View sig .tc sp S6x64x2x128 .bf16) (f : v.ty.Contents (Elt F)) (x4 : S16x8x768.Idx → Elt F .fp8e4m3) (x5 : S16x768.Idx → Elt F .f32)
    (k : Fin k0_t1_loop.trips) (hk : k.val < 16) (l5 : S1x768.Idx → Elt F .f32) (hl5 : l5 = fun i => x5 (ix2 ⟨k.val, hk⟩ (i 1))) (l4 : S1x8x768.Idx → Elt F .fp8e4m3) (hl4 : l4 = fun i => x4 (ix3 ⟨k.val, hk⟩ (i 1) (i 2))) i0 i1 i2 i3 i4 i5 (h0 : S4x768.Slices ![0, 0] S4x128) (h1 : S4x768.Slices ![0, 128] S4x128) (h2 : S4x768.Slices ![0, 256] S4x128) (h3 : S4x768.Slices ![0, 384] S4x128) (h4 : S4x768.Slices ![0, 512] S4x128) (h5 : S4x768.Slices ![0, 640] S4x128)
    (e : ∀ j : S6x64x2x128.Idx, (j 1).val % 16 < k.val → v.read (Elt F) f j = Wts x4 x5 j)
    (j : S6x64x2x128.Idx) (hj : (j 1).val % 16 < k.val + 1) :
    v.read (Elt F) (v.writes (Elt F) f [⟨{ off := k0_off17 k, size := S1x4x2x128.size, stride := ![1, 16, 1, 1], inb := i5, stride_pos := spos_1_16_1_1 }, stretch768 (k0_pay17 (F := F) l5 l4) 640 h5⟩,
        ⟨{ off := k0_off16 k, size := S1x4x2x128.size, stride := ![1, 16, 1, 1], inb := i4, stride_pos := spos_1_16_1_1 }, stretch768 (k0_pay17 (F := F) l5 l4) 512 h4⟩,
        ⟨{ off := k0_off15 k, size := S1x4x2x128.size, stride := ![1, 16, 1, 1], inb := i3, stride_pos := spos_1_16_1_1 }, stretch768 (k0_pay17 (F := F) l5 l4) 384 h3⟩,
        ⟨{ off := k0_off14 k, size := S1x4x2x128.size, stride := ![1, 16, 1, 1], inb := i2, stride_pos := spos_1_16_1_1 }, stretch768 (k0_pay17 (F := F) l5 l4) 256 h2⟩,
        ⟨{ off := k0_off13 k, size := S1x4x2x128.size, stride := ![1, 16, 1, 1], inb := i1, stride_pos := spos_1_16_1_1 }, stretch768 (k0_pay17 (F := F) l5 l4) 128 h1⟩,
        ⟨{ off := k0_off12 k, size := S1x4x2x128.size, stride := ![1, 16, 1, 1], inb := i0, stride_pos := spos_1_16_1_1 }, stretch768 (k0_pay17 (F := F) l5 l4) 0 h0⟩]) j = Wts x4 x5 j := by
  by_cases hjk : (j 1).val % 16 = k.val
  · refine View.read_writes_apply_of_pieces _ _ (Wts x4 x5) _ ?_ j ?_
    · refine (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (fun p hp => absurd hp List.not_mem_nil)⟩)⟩)⟩)⟩)⟩)⟩)
      · intro x
        have hx0 : (x 0).val < 1 := (x 0).isLt
        have hx2 : (x 2).val < 2 := (x 2).isLt
        refine (words_weights (k0_pay17 (F := F) l5 l4) 640 (by decide) h5 x).trans ?_
        refine wts_piece x4 x5 k.val hk l5 hl5 l4 hl4 5 _ ?_ ?_ x _ _ (x 1).val (x 2).val (x 3).val ?_ ?_ ?_ ?_ hx2 ?_ ?_
        · exact k0_off17_eq k
        · rfl
        · rfl
        · rfl
        · rfl
        · omega
        · rfl
        · show 640 + (x 3).val = 128 * 5 + (x 3).val; omega
      · intro x
        have hx0 : (x 0).val < 1 := (x 0).isLt
        have hx2 : (x 2).val < 2 := (x 2).isLt
        refine (words_weights (k0_pay17 (F := F) l5 l4) 512 (by decide) h4 x).trans ?_
        refine wts_piece x4 x5 k.val hk l5 hl5 l4 hl4 4 _ ?_ ?_ x _ _ (x 1).val (x 2).val (x 3).val ?_ ?_ ?_ ?_ hx2 ?_ ?_
        · exact k0_off16_eq k
        · rfl
        · rfl
        · rfl
        · rfl
        · omega
        · rfl
        · show 512 + (x 3).val = 128 * 4 + (x 3).val; omega
      · intro x
        have hx0 : (x 0).val < 1 := (x 0).isLt
        have hx2 : (x 2).val < 2 := (x 2).isLt
        refine (words_weights (k0_pay17 (F := F) l5 l4) 384 (by decide) h3 x).trans ?_
        refine wts_piece x4 x5 k.val hk l5 hl5 l4 hl4 3 _ ?_ ?_ x _ _ (x 1).val (x 2).val (x 3).val ?_ ?_ ?_ ?_ hx2 ?_ ?_
        · exact k0_off15_eq k
        · rfl
        · rfl
        · rfl
        · rfl
        · omega
        · rfl
        · show 384 + (x 3).val = 128 * 3 + (x 3).val; omega
      · intro x
        have hx0 : (x 0).val < 1 := (x 0).isLt
        have hx2 : (x 2).val < 2 := (x 2).isLt
        refine (words_weights (k0_pay17 (F := F) l5 l4) 256 (by decide) h2 x).trans ?_
        refine wts_piece x4 x5 k.val hk l5 hl5 l4 hl4 2 _ ?_ ?_ x _ _ (x 1).val (x 2).val (x 3).val ?_ ?_ ?_ ?_ hx2 ?_ ?_
        · exact k0_off14_eq k
        · rfl
        · rfl
        · rfl
        · rfl
        · omega
        · rfl
        · show 256 + (x 3).val = 128 * 2 + (x 3).val; omega
      · intro x
        have hx0 : (x 0).val < 1 := (x 0).isLt
        have hx2 : (x 2).val < 2 := (x 2).isLt
        refine (words_weights (k0_pay17 (F := F) l5 l4) 128 (by decide) h1 x).trans ?_
        refine wts_piece x4 x5 k.val hk l5 hl5 l4 hl4 1 _ ?_ ?_ x _ _ (x 1).val (x 2).val (x 3).val ?_ ?_ ?_ ?_ hx2 ?_ ?_
        · exact k0_off13_eq k
        · rfl
        · rfl
        · rfl
        · rfl
        · omega
        · rfl
        · show 128 + (x 3).val = 128 * 1 + (x 3).val; omega
      · intro x
        have hx0 : (x 0).val < 1 := (x 0).isLt
        have hx2 : (x 2).val < 2 := (x 2).isLt
        refine (words_weights (k0_pay17 (F := F) l5 l4) 0 (by decide) h0 x).trans ?_
        refine wts_piece x4 x5 k.val hk l5 hl5 l4 hl4 0 _ ?_ ?_ x _ _ (x 1).val (x 2).val (x 3).val ?_ ?_ ?_ ?_ hx2 ?_ ?_
        · exact k0_off12_eq k
        · rfl
        · rfl
        · rfl
        · rfl
        · omega
        · rfl
        · show 0 + (x 3).val = 128 * 0 + (x 3).val; omega
    · have h0 : (j 0).val < 6 := (j 0).isLt
      rcases (show (j 0).val = 0 ∨ (j 0).val = 1 ∨ (j 0).val = 2 ∨ (j 0).val = 3 ∨ (j 0).val = 4 ∨ (j 0).val = 5 by omega) with h | h | h | h | h | h
      · refine ⟨_, (List.mem_cons_of_mem _ (List.mem_cons_of_mem _ (List.mem_cons_of_mem _ (List.mem_cons_of_mem _ (List.mem_cons_of_mem _ List.mem_cons_self))))), ?_⟩
        refine (mem_wts _ 0 k.val ?_ ?_ ?_ hk j).2 ⟨h, hjk⟩
        · exact k0_off12_eq k
        · rfl
        · rfl
      · refine ⟨_, (List.mem_cons_of_mem _ (List.mem_cons_of_mem _ (List.mem_cons_of_mem _ (List.mem_cons_of_mem _ List.mem_cons_self)))), ?_⟩
        refine (mem_wts _ 1 k.val ?_ ?_ ?_ hk j).2 ⟨h, hjk⟩
        · exact k0_off13_eq k
        · rfl
        · rfl
      · refine ⟨_, (List.mem_cons_of_mem _ (List.mem_cons_of_mem _ (List.mem_cons_of_mem _ List.mem_cons_self))), ?_⟩
        refine (mem_wts _ 2 k.val ?_ ?_ ?_ hk j).2 ⟨h, hjk⟩
        · exact k0_off14_eq k
        · rfl
        · rfl
      · refine ⟨_, (List.mem_cons_of_mem _ (List.mem_cons_of_mem _ List.mem_cons_self)), ?_⟩
        refine (mem_wts _ 3 k.val ?_ ?_ ?_ hk j).2 ⟨h, hjk⟩
        · exact k0_off15_eq k
        · rfl
        · rfl
      · refine ⟨_, (List.mem_cons_of_mem _ List.mem_cons_self), ?_⟩
        refine (mem_wts _ 4 k.val ?_ ?_ ?_ hk j).2 ⟨h, hjk⟩
        · exact k0_off16_eq k
        · rfl
        · rfl
      · refine ⟨_, List.mem_cons_self, ?_⟩
        refine (mem_wts _ 5 k.val ?_ ?_ ?_ hk j).2 ⟨h, hjk⟩
        · exact k0_off17_eq k
        · rfl
        · rfl
  · refine (View.read_writes_apply_of_forall_not_mem v f j _ ?_).trans (e j (by omega))
    · refine (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (fun p hp => absurd hp List.not_mem_nil)⟩)⟩)⟩)⟩)⟩)⟩)
      · intro h
        refine hjk ((mem_wts _ 5 k.val ?_ ?_ ?_ hk j).1 h).2
        · exact k0_off17_eq k
        · rfl
        · rfl
      · intro h
        refine hjk ((mem_wts _ 4 k.val ?_ ?_ ?_ hk j).1 h).2
        · exact k0_off16_eq k
        · rfl
        · rfl
      · intro h
        refine hjk ((mem_wts _ 3 k.val ?_ ?_ ?_ hk j).1 h).2
        · exact k0_off15_eq k
        · rfl
        · rfl
      · intro h
        refine hjk ((mem_wts _ 2 k.val ?_ ?_ ?_ hk j).1 h).2
        · exact k0_off14_eq k
        · rfl
        · rfl
      · intro h
        refine hjk ((mem_wts _ 1 k.val ?_ ?_ ?_ hk j).1 h).2
        · exact k0_off13_eq k
        · rfl
        · rfl
      · intro h
        refine hjk ((mem_wts _ 0 k.val ?_ ?_ ?_ hk j).1 h).2
        · exact k0_off12_eq k
        · rfl
        · rfl

end Trip

section Body

variable (c : Dev nD) (i : grid0.Coords)
    (arg2 : Memref sig .tc .vmem S1x16x512 .i32) (harg2 : arg2.IsWhole)
    (arg3 : Memref sig .tc .vmem S16x8x1024 .bf16) (harg3 : arg3.IsWhole)
    (arg4 : Memref sig .tc .vmem S16x8x768 .fp8e4m3) (harg4 : arg4.IsWhole)
    (arg5 : Memref sig .tc .vmem S16x768 .f32) (harg5 : arg5.IsWhole)
    (arg6 : Memref sig .tc .vmem S16x768 .f32) (harg6 : arg6.IsWhole)
    (arg7 : Memref sig .tc .vmem S1x512x768 .bf16) (harg7 : arg7.IsWhole)
    (arg8 : Memref sig .tc .vmem S8x64x2x128 .bf16) (harg8 : arg8.IsWhole)
    (arg9 : Memref sig .tc .vmem S6x64x2x128 .bf16) (harg9 : arg9.IsWhole)
    (arg10 : Memref sig .tc .vmem S1x768 .f32) (harg10 : arg10.IsWhole)

@[sl_loop, instance_reducible] noncomputable def loopVal_k0_t1 (arg2 : Memref sig .tc .vmem S1x16x512 .i32) (harg2 : arg2.IsWhole) (arg3 : Memref sig .tc .vmem S16x8x1024 .bf16) (harg3 : arg3.IsWhole) (arg4 : Memref sig .tc .vmem S16x8x768 .fp8e4m3) (harg4 : arg4.IsWhole) (arg5 : Memref sig .tc .vmem S16x768 .f32) (harg5 : arg5.IsWhole) (arg6 : Memref sig .tc .vmem S16x768 .f32) (harg6 : arg6.IsWhole) (arg7 : Memref sig .tc .vmem S1x512x768 .bf16) (harg7 : arg7.IsWhole) (arg8 : Memref sig .tc .vmem S8x64x2x128 .bf16) (harg8 : arg8.IsWhole) (arg9 : Memref sig .tc .vmem S6x64x2x128 .bf16) (harg9 : arg9.IsWhole) (arg10 : Memref sig .tc .vmem S1x768 .f32) (harg10 : arg10.IsWhole) (k0_h1 : k0_cond1 i = 1#1)
    (f3 : Buf (Elt F) (arg3.view.loc (c : Thread nD τ))) (f4 : Buf (Elt F) (arg4.view.loc (c : Thread nD τ)))
    (f5 : Buf (Elt F) (arg5.view.loc (c : Thread nD τ))) :
    Cert.KIdeal.Gen.LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 k0_h1 where
  inv := fun k _ => iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5)
    ∗ (∃ f, ⌜∀ j : S8x64x2x128.Idx, (j 1).val % 16 < k → arg8.view.read (Elt F) f j = Tab (arg3.view.read (Elt F) f3) j⌝ ∗ (arg8.view.loc (c : Thread nD τ) ↦[arg8.view.set]{fullShare} f))
    ∗ (∃ f, ⌜∀ j : S6x64x2x128.Idx, (j 1).val % 16 < k → arg9.view.read (Elt F) f j = Wts (arg4.view.read (Elt F) f4) (arg5.view.read (Elt F) f5) j⌝ ∗ (arg9.view.loc (c : Thread nD τ) ↦[arg9.view.set]{fullShare} f)))
  step := fun k acc => by
    unfold k0_t1_body
    iintro ⟨H3, H4, H5, ⟨%f8, %e8, H8⟩, ⟨%f9, %e9, H9⟩⟩
    sl_exec_parts
    sl_step
    isplitl [H3]; · iexact H3
    isplitl [H4]; · iexact H4
    isplitl [H5]; · iexact H5
    isplitl [H8]
    · iexists _; isplitr; swap; · iexact H8
      ipureintro
      intro j hj
      sl_unfold_run_names
      exact trip_table arg8.view f8 (arg3.view.read (Elt F) f3) k k.isLt _ (load_table k k.isLt arg3 f3 _) _ _ _ _ _ _ _ _ _ _ _ _ _ _ _ _ e8 j hj
    · iexists _; isplitr; swap; · iexact H9
      ipureintro
      intro j hj
      sl_unfold_run_names
      exact trip_weights arg9.view f9 (arg4.view.read (Elt F) f4) (arg5.view.read (Elt F) f5) k k.isLt _ (load_scale k k.isLt arg5 f5 _) _ (load_codes k k.isLt arg4 f4 _) _ _ _ _ _ _ _ _ _ _ _ _ e9 j hj

end Body

end Cert.KIdeal.Hand

end
-- ==== Proof.KIdealLookup.lean ====
/-
  What the body looks up, place by place: one register of codes against eight stretches of the table (`block`), and the
  thirty-two registers of a point laid out as the matrix the projection contracts (`looked`). The codes are words; the
  kernel reads bits 0 to 6 as the place in a stretch and bits 7 to 9 as the stretch.
-/
module

public import proofs.«01_k».proof.Proof.KIdealFill

@[expose] public section

set_option maxRecDepth 65536
set_option maxHeartbeats 4000000

noncomputable section

namespace Cert.KIdeal.Hand

open Cert.KIdeal Cert.KIdeal.Gen
open Idealize.ShloMosaic Idealize.ShloMosaic.TcCoe Idealize.ShloMosaic.Tactic

variable {F : FTy → Type} [FloatOps F]

/-- A register of codes, each row twice: one for either row of a table word. -/
def codeRows (v : Vec F S1x8x128 .i32) : IVec S16x128 32 :=
  shapeCast S16x128 (broadcastTo S8x2x128 (shapeCast S8x1x128 (shapeCast S8x128 v shapeCasts_S1x8x128_S8x128) shapeCasts_S8x128_S8x1x128)
    broadcasts_S8x1x128_S8x2x128) shapeCasts_S8x2x128_S16x128

/-- Sixteen table rows, as numbers of thirty-two bits. -/
def tableRows (r : Vec F S1x8x2x128 .bf16) : FVec F S16x128 .f32 :=
  extf .f32 (interleaveRows S16x128
      (shapeCast S8x128 (shapeCast S1x8x128 (rowsOfParity 0 S1x8x1x128 r bitcasts_S1x8x2x128_w16_S1x8x1x128_w32) shapeCasts_S1x8x1x128_S1x8x128) shapeCasts_S1x8x128_S8x128)
      (shapeCast S8x128 (shapeCast S1x8x128 (rowsOfParity 1 S1x8x1x128 r bitcasts_S1x8x2x128_w16_S1x8x1x128_w32) shapeCasts_S1x8x1x128_S1x8x128) shapeCasts_S1x8x128_S8x128)
      bitcasts_S16x128_w16_S8x128_w32) bitsLt_bf16_f32

/-- One stretch looked up at the codes' low seven bits. -/
def lookup (v : Vec F S1x8x128 .i32) (r : Vec F S1x8x2x128 .bf16) : FVec F S16x128 .f32 :=
  dynamicGather 1 (tableRows r)
    (shapeCast S16x128 (shapeCast S16x128x1 (andi (codeRows v) (broadcast S16x128 127#32)) shapeCasts_S16x128_S16x128x1) shapeCasts_S16x128x1_S16x128)

/-- Whether a code's bit is set. -/
def bitSet (v : Vec F S1x8x128 .i32) (b : BitVec 32) : IVec S16x128 1 :=
  cmpi .ne (andi (codeRows v) (broadcast S16x128 b)) (broadcast S16x128 0#32)

/-- The eight stretches looked up, and one chosen by bits 7 to 9. -/
def block (v : Vec F S1x8x128 .i32) (r : Fin 8 → Vec F S1x8x2x128 .bf16) : FVec F S16x128 .bf16 :=
  truncf .bf16 (select (bitSet v 512#32)
      (select (bitSet v 256#32) (select (bitSet v 128#32) (lookup v (r 7)) (lookup v (r 6))) (select (bitSet v 128#32) (lookup v (r 5)) (lookup v (r 4))))
      (select (bitSet v 256#32) (select (bitSet v 128#32) (lookup v (r 3)) (lookup v (r 2))) (select (bitSet v 128#32) (lookup v (r 1)) (lookup v (r 0)))))
    bitsLt_bf16_f32

theorem codeRows_apply (v : Vec F S1x8x128 .i32) (a : Fin 16) (l : Fin 128) :
    codeRows v (ix2 a l) = v (ix3 0 ⟨a.val / 2, by have := a.isLt; omega⟩ l) := by
  pointwise [codeRows]

/-- The entry a table word's half holds, as the body widens it. -/
abbrev wide (x : F .bf16) : F .f32 := FloatOps.extf .f32 bitsLt_bf16_f32 x

theorem tableRows_apply (r : Vec F S1x8x2x128 .bf16) (a : Fin 16) (l : Fin 128) :
    tableRows r (ix2 a l) = wide (r (ix4 0 ⟨a.val / 2, by have := a.isLt; omega⟩ ⟨a.val % 2, by omega⟩ l)) := by
  pointwise [tableRows]
  rcases Nat.mod_two_eq_zero_or_one a.val with h | h
  · rw [if_pos h]; simp only [h]; rfl
  · rw [if_neg (by omega)]; simp only [h]; rfl

theorem low_bits (w : BitVec 32) : (IntOp.andi w 127#32).toNat % 128 = w.toNat % 128 := by
  show (w &&& 127#32).toNat % 128 = _
  rw [BitVec.toNat_and, show (127#32).toNat = 2 ^ 7 - 1 from rfl, Nat.and_two_pow_sub_one_eq_mod]
  omega

theorem bit_word (w : BitVec 32) (k : ℕ) (b : BitVec 32) (hb : b = BitVec.twoPow 32 k) (hk : k < 32) :
    (IntOp.cmpi .ne (IntOp.andi w b) 0#32 = 1) ↔ w.toNat / 2 ^ k % 2 = 1 := by
  have e : IntOp.andi w b = if w.getLsbD k then BitVec.twoPow 32 k else 0#32 := by
    rw [hb]; exact BitVec.and_twoPow w k
  have t : w.getLsbD k = decide (w.toNat / 2 ^ k % 2 = 1) := Nat.testBit_eq_decide_div_mod_eq
  have n : BitVec.twoPow 32 k ≠ 0#32 := by
    intro h
    have := congrArg BitVec.toNat h
    rw [BitVec.toNat_twoPow_of_lt hk] at this
    simp at this
  rw [e, t]
  by_cases h : w.toNat / 2 ^ k % 2 = 1
  · simp only [h, decide_true, if_true, iff_true]
    show BitVec.ofBool (_ != _) = 1#1
    rw [show (BitVec.twoPow 32 k != 0#32) = true from bne_iff_ne.2 n]; rfl
  · simp only [h, decide_false, iff_false]
    rw [if_neg Bool.false_ne_true]
    decide

theorem lookup_apply (v : Vec F S1x8x128 .i32) (r : Vec F S1x8x2x128 .bf16) (a : Fin 16) (l : Fin 128) :
    lookup v r (ix2 a l) = wide (r (ix4 0 ⟨a.val / 2, by have := a.isLt; omega⟩ ⟨a.val % 2, by omega⟩
      ⟨(v (ix3 0 ⟨a.val / 2, by have := a.isLt; omega⟩ l)).toNat % 128, Nat.mod_lt _ (by decide)⟩)) := by
  have h : lookup v r (ix2 a l) = tableRows r (ix2 a ⟨(IntOp.andi (v (ix3 0 ⟨a.val / 2, by have := a.isLt; omega⟩ l)) 127#32).toNat % 128,
      Nat.mod_lt _ (by decide)⟩) := by
    pointwise [lookup, codeRows_apply]
  rw [h, tableRows_apply]
  simp only [low_bits]

theorem bitSet_apply (v : Vec F S1x8x128 .i32) (b : BitVec 32) (a : Fin 16) (l : Fin 128) :
    bitSet v b (ix2 a l) = IntOp.cmpi .ne (IntOp.andi (v (ix3 0 ⟨a.val / 2, by have := a.isLt; omega⟩ l)) b) 0#32 := by
  pointwise [bitSet, codeRows_apply]

/-- A block, place by place: the stretch that bits 7 to 9 of the place's code name, at the place its bits 0 to 6 name. -/
theorem block_apply (v : Vec F S1x8x128 .i32) (r : Fin 8 → Vec F S1x8x2x128 .bf16) (a : Fin 16) (l : Fin 128) (w : BitVec 32)
    (hw : w = v (ix3 0 ⟨a.val / 2, by have := a.isLt; omega⟩ l)) :
    block v r (ix2 a l) = FloatOps.truncf .bf16 bitsLt_bf16_f32 (wide (r ⟨w.toNat / 128 % 8, Nat.mod_lt _ (by decide)⟩
      (ix4 0 ⟨a.val / 2, by have := a.isLt; omega⟩ ⟨a.val % 2, by omega⟩ ⟨w.toNat % 128, Nat.mod_lt _ (by decide)⟩))) := by
  have key : ∀ (q : Fin 8), w.toNat / 128 % 8 = q.val → (⟨w.toNat / 128 % 8, Nat.mod_lt _ (by decide)⟩ : Fin 8) = q := fun q h => Fin.ext h
  have h7 := bit_word w 7 128#32 (by decide) (by decide)
  have h8 := bit_word w 8 256#32 (by decide) (by decide)
  have h9 := bit_word w 9 512#32 (by decide) (by decide)
  have hb : block v r (ix2 a l) = FloatOps.truncf .bf16 bitsLt_bf16_f32 (Scalar.select (bitSet v 512#32 (ix2 a l))
      (Scalar.select (bitSet v 256#32 (ix2 a l)) (Scalar.select (bitSet v 128#32 (ix2 a l)) (lookup v (r 7) (ix2 a l)) (lookup v (r 6) (ix2 a l)))
        (Scalar.select (bitSet v 128#32 (ix2 a l)) (lookup v (r 5) (ix2 a l)) (lookup v (r 4) (ix2 a l))))
      (Scalar.select (bitSet v 256#32 (ix2 a l)) (Scalar.select (bitSet v 128#32 (ix2 a l)) (lookup v (r 3) (ix2 a l)) (lookup v (r 2) (ix2 a l)))
        (Scalar.select (bitSet v 128#32 (ix2 a l)) (lookup v (r 1) (ix2 a l)) (lookup v (r 0) (ix2 a l))))) := rfl
  rw [hb]
  simp only [bitSet_apply, lookup_apply, ← hw]
  unfold Scalar.select
  by_cases c7 : w.toNat / 2 ^ 7 % 2 = 1 <;> by_cases c8 : w.toNat / 2 ^ 8 % 2 = 1 <;> by_cases c9 : w.toNat / 2 ^ 9 % 2 = 1
  · rw [if_pos (h9.2 c9), if_pos (h8.2 c8), if_pos (h7.2 c7), key 7 (by show _ = 7; omega)]
  · rw [if_neg (mt h9.1 c9), if_pos (h8.2 c8), if_pos (h7.2 c7), key 3 (by show _ = 3; omega)]
  · rw [if_pos (h9.2 c9), if_neg (mt h8.1 c8), if_pos (h7.2 c7), key 5 (by show _ = 5; omega)]
  · rw [if_neg (mt h9.1 c9), if_neg (mt h8.1 c8), if_pos (h7.2 c7), key 1 (by show _ = 1; omega)]
  · rw [if_pos (h9.2 c9), if_pos (h8.2 c8), if_neg (mt h7.1 c7), key 6 (by show _ = 6; omega)]
  · rw [if_neg (mt h9.1 c9), if_pos (h8.2 c8), if_neg (mt h7.1 c7), key 2 (by show _ = 2; omega)]
  · rw [if_pos (h9.2 c9), if_neg (mt h8.1 c8), if_neg (mt h7.1 c7), key 4 (by show _ = 4; omega)]
  · rw [if_neg (mt h9.1 c9), if_neg (mt h8.1 c8), if_neg (mt h7.1 c7), key 0 (by show _ = 0; omega)]

/-- One parity of a column's eight blocks, one under the other. -/
def column (p : Fin 2) (B : Fin 8 → FVec F S16x128 .bf16) : FVec F S64x128 .bf16 :=
  concatenate S64x128 0 [⟨S8x128, rowsOfParity p S8x128 (B 0) bitcasts_S16x128_w16_S8x128_w32⟩, ⟨S8x128, rowsOfParity p S8x128 (B 1) bitcasts_S16x128_w16_S8x128_w32⟩,
    ⟨S8x128, rowsOfParity p S8x128 (B 2) bitcasts_S16x128_w16_S8x128_w32⟩, ⟨S8x128, rowsOfParity p S8x128 (B 3) bitcasts_S16x128_w16_S8x128_w32⟩,
    ⟨S8x128, rowsOfParity p S8x128 (B 4) bitcasts_S16x128_w16_S8x128_w32⟩, ⟨S8x128, rowsOfParity p S8x128 (B 5) bitcasts_S16x128_w16_S8x128_w32⟩,
    ⟨S8x128, rowsOfParity p S8x128 (B 6) bitcasts_S16x128_w16_S8x128_w32⟩, ⟨S8x128, rowsOfParity p S8x128 (B 7) bitcasts_S16x128_w16_S8x128_w32⟩]
    concatenates_S8x128_S8x128_S8x128_S8x128_S8x128_S8x128_S8x128_S8x128_S64x128_d0

/-- The point's blocks as one matrix: four columns of eight, the two halves of each word on neighbouring rows. -/
def looked (B : Fin 4 → Fin 8 → FVec F S16x128 .bf16) : FVec F S128x512 .bf16 :=
  interleaveRows S128x512
    (concatenate S64x512 1 [⟨S64x128, column 0 (B 0)⟩, ⟨S64x128, column 0 (B 1)⟩, ⟨S64x128, column 0 (B 2)⟩, ⟨S64x128, column 0 (B 3)⟩]
      concatenates_S64x128_S64x128_S64x128_S64x128_S64x512_d1)
    (concatenate S64x512 1 [⟨S64x128, column 1 (B 0)⟩, ⟨S64x128, column 1 (B 1)⟩, ⟨S64x128, column 1 (B 2)⟩, ⟨S64x128, column 1 (B 3)⟩]
      concatenates_S64x128_S64x128_S64x128_S64x128_S64x512_d1)
    bitcasts_S128x512_w16_S64x512_w32

theorem column_apply (p : Fin 2) (B : Fin 8 → FVec F S16x128 .bf16) (a : Fin 64) (l : Fin 128) :
    column p B (ix2 a l) = B ⟨a.val / 8, by have := a.isLt; omega⟩ (ix2 ⟨2 * (a.val % 8) + p.val, by have := p.isLt; omega⟩ l) := by
  have ha := a.isLt
  have key : ∀ (n n' : Fin 8) (x x' : Fin 16), n.val = n'.val → x.val = x'.val → B n (ix2 x l) = B n' (ix2 x' l) :=
    fun n n' x x' h h' => by rw [Fin.ext h, Fin.ext h']
  pointwise [column]
  split_ifs <;> refine key _ _ _ _ ?_ ?_ <;> simp only [Fin.val_ofNat, Fin.isValue] <;> omega

theorem looked_apply (B : Fin 4 → Fin 8 → FVec F S16x128 .bf16) (a : Fin 128) (b : Fin 512) :
    looked B (ix2 a b) = B ⟨b.val / 128, by have := b.isLt; omega⟩ ⟨a.val / 16, by have := a.isLt; omega⟩
      (ix2 ⟨a.val % 16, by omega⟩ ⟨b.val % 128, by omega⟩) := by
  have hb := b.isLt
  have key : ∀ (n n' : Fin 4) (m m' : Fin 8) (x x' : Fin 16) (y y' : Fin 128), n.val = n'.val → m.val = m'.val → x.val = x'.val → y.val = y'.val →
      B n m (ix2 x y) = B n' m' (ix2 x' y') :=
    fun n n' m m' x x' y y' h h' h'' hy => by rw [Fin.ext h, Fin.ext h', Fin.ext h'', Fin.ext hy]
  pointwise [looked]
  simp only [column_apply]
  split_ifs <;> refine key _ _ _ _ _ _ _ _ ?_ ?_ ?_ ?_ <;> simp only [Fin.val_ofNat, Fin.isValue] <;> omega

/-- One stretch of the scratch of projection weights as rows: the two halves of each word on neighbouring rows. -/
def stretchRows (r : Vec F S1x64x2x128 .bf16) : FVec F S128x128 .bf16 :=
  interleaveRows S128x128
    (shapeCast S64x128 (shapeCast S1x64x128 (rowsOfParity 0 S1x64x1x128 r bitcasts_S1x64x2x128_w16_S1x64x1x128_w32) shapeCasts_S1x64x1x128_S1x64x128) shapeCasts_S1x64x128_S64x128)
    (shapeCast S64x128 (shapeCast S1x64x128 (rowsOfParity 1 S1x64x1x128 r bitcasts_S1x64x2x128_w16_S1x64x1x128_w32) shapeCasts_S1x64x1x128_S1x64x128) shapeCasts_S1x64x128_S64x128)
    bitcasts_S128x128_w16_S64x128_w32

/-- The six stretches of projection weights side by side. -/
def weightRows (r : Fin 6 → Vec F S1x64x2x128 .bf16) : FVec F S128x768 .bf16 :=
  concatenate S128x768 1 [⟨S128x128, stretchRows (r 0)⟩, ⟨S128x128, stretchRows (r 1)⟩, ⟨S128x128, stretchRows (r 2)⟩,
    ⟨S128x128, stretchRows (r 3)⟩, ⟨S128x128, stretchRows (r 4)⟩, ⟨S128x128, stretchRows (r 5)⟩]
    concatenates_S128x128_S128x128_S128x128_S128x128_S128x128_S128x128_S128x768_d1

theorem stretchRows_apply (r : Vec F S1x64x2x128 .bf16) (a : Fin 128) (l : Fin 128) :
    stretchRows r (ix2 a l) = r (ix4 0 ⟨a.val / 2, by have := a.isLt; omega⟩ ⟨a.val % 2, by omega⟩ l) := by
  pointwise [stretchRows]
  rcases Nat.mod_two_eq_zero_or_one a.val with h | h
  · rw [if_pos h]; simp only [h]; rfl
  · rw [if_neg (by omega)]; simp only [h]; rfl

theorem weightRows_apply (r : Fin 6 → Vec F S1x64x2x128 .bf16) (a : Fin 128) (o : Fin 768) :
    weightRows r (ix2 a o) = r ⟨o.val / 128, by have := o.isLt; omega⟩
      (ix4 0 ⟨a.val / 2, by have := a.isLt; omega⟩ ⟨a.val % 2, by omega⟩ ⟨o.val % 128, by omega⟩) := by
  have ho := o.isLt
  have key : ∀ (n n' : Fin 6) (y y' : Fin 128), n.val = n'.val → y.val = y'.val →
      r n (ix4 0 ⟨a.val / 2, by have := a.isLt; omega⟩ ⟨a.val % 2, by omega⟩ y) = r n' (ix4 0 ⟨a.val / 2, by have := a.isLt; omega⟩ ⟨a.val % 2, by omega⟩ y') :=
    fun n n' y y' h h' => by rw [Fin.ext h, Fin.ext h']
  pointwise [weightRows]
  simp only [stretchRows_apply]
  split_ifs <;> refine key _ _ _ _ ?_ ?_ <;> simp only [Fin.val_ofNat, Fin.isValue] <;> omega

end Cert.KIdeal.Hand

end
-- ==== Proof.KIdealRun.lean ====
/-
  One grid point's body with what it leaves in the output block and the three scratches: `later` at a point after the first,
  `first` at the first, where the scratches are filled.
-/
module

public import proofs.«01_k».proof.Proof.KIdealLookup
public import Idealize.ShloMosaic.Lib.Tactic.Stretches
public import Idealize.ShloMosaic.Lib.VecWindow

@[expose] public section

set_option maxRecDepth 65536
set_option maxHeartbeats 4000000

noncomputable section

namespace Cert.KIdeal.Hand

open Cert.KIdeal Cert.KIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The codes of one column of one block: word rows `8 (blk % 2) + q`, places `128 f + l` of the point's block. -/
def codesAt (x2 : S1x16x512.Idx → Elt F .i32) (f : Fin 4) (blk : Fin 8) : Vec F S1x8x128 .i32 := fun j =>
  x2 ((Rect.unit (s := S1x16x512) ![0, 8 * (blk.val % 2), 128 * f.val] S1x8x128.size
    (fun d => by have := f.isLt; match d with
      | 0 => exact Nat.le_refl 1
      | 1 => show 8 * (blk.val % 2) + 8 ≤ 16; omega
      | 2 => show 128 * f.val + 128 ≤ 512; omega)).toLoadRect.idx j)

/-- Stretch `s` of the table's words `8 blk + q`. -/
def tableAt (x8 : S8x64x2x128.Idx → Elt F .bf16) (blk : Fin 8) (s : Fin 8) : Vec F S1x8x2x128 .bf16 := fun j =>
  x8 ((Rect.unit (s := S8x64x2x128) ![s.val, 8 * blk.val, 0, 0] S1x8x2x128.size
    (fun d => by have := blk.isLt; have := s.isLt; match d with
      | 0 => show s.val + 1 ≤ 8; omega
      | 1 => show 8 * blk.val + 8 ≤ 64; omega
      | 2 => exact Nat.le_refl 2
      | 3 => exact Nat.le_refl 128)).toLoadRect.idx j)

/-- Stretch `s` of the projection weights. -/
def weightsAt (x9 : S6x64x2x128.Idx → Elt F .bf16) (s : Fin 6) : Vec F S1x64x2x128 .bf16 := fun j =>
  x9 ((Rect.unit (s := S6x64x2x128) ![s.val, 0, 0, 0] S1x64x2x128.size
    (fun d => by have := s.isLt; match d with
      | 0 => show s.val + 1 ≤ 6; omega
      | 1 => exact Nat.le_refl 64
      | 2 => exact Nat.le_refl 2
      | 3 => exact Nat.le_refl 128)).toLoadRect.idx j)

/-- The block of latents a point writes, from its block of codes and the three scratches. -/
def Out (x2 : S1x16x512.Idx → Elt F .i32) (x8 : S8x64x2x128.Idx → Elt F .bf16) (x9 : S6x64x2x128.Idx → Elt F .bf16)
    (x10 : S1x768.Idx → Elt F .f32) : S1x512x768.Idx → Elt F .bf16 :=
  k0_pay1 (matmul dot_S128x512_S128x768_S512x768_0_0_1_1_n_n none (looked fun f blk => block (codesAt x2 f blk) (tableAt x8 blk))
    (weightRows (weightsAt x9)) (constant S512x768 .f32 0x00000000#32)) x10

section Body

variable (c : Dev nD) (i : grid0.Coords)
    (arg2 : Memref sig .tc .vmem S1x16x512 .i32) (harg2 : arg2.IsWhole)
    (arg3 : Memref sig .tc .vmem S16x8x1024 .bf16) (harg3 : arg3.IsWhole)
    (arg4 : Memref sig .tc .vmem S16x8x768 .fp8e4m3) (harg4 : arg4.IsWhole)
    (arg5 : Memref sig .tc .vmem S16x768 .f32) (harg5 : arg5.IsWhole)
    (arg6 : Memref sig .tc .vmem S16x768 .f32) (harg6 : arg6.IsWhole)
    (arg7 : Memref sig .tc .vmem S1x512x768 .bf16) (harg7 : arg7.IsWhole)
    (arg8 : Memref sig .tc .vmem S8x64x2x128 .bf16) (harg8 : arg8.IsWhole)
    (arg9 : Memref sig .tc .vmem S6x64x2x128 .bf16) (harg9 : arg9.IsWhole)
    (arg10 : Memref sig .tc .vmem S1x768 .f32) (harg10 : arg10.IsWhole)

theorem later (h : ¬ k0_cond1 i = 1#1) (x2 : S1x16x512.Idx → Elt F .i32) (x3 : S16x8x1024.Idx → Elt F .bf16) (x4 : S16x8x768.Idx → Elt F .fp8e4m3)
    (x5 : S16x768.Idx → Elt F .f32) (x6 : S16x768.Idx → Elt F .f32) (x8 : S8x64x2x128.Idx → Elt F .bf16) (x9 : S6x64x2x128.Idx → Elt F .bf16)
    (x10 : S1x768.Idx → Elt F .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ owns (c : Thread nD τ) arg8 fullShare x8 ∗ owns (c : Thread nD τ) arg9 fullShare x9 ∗ owns (c : Thread nD τ) arg10 fullShare x10
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (Out x2 x8 x9 x10)
        ∗ owns (c : Thread nD τ) arg8 fullShare x8 ∗ owns (c : Thread nD τ) arg9 fullShare x9 ∗ owns (c : Thread nD τ) arg10 fullShare x10) -∗ K ⟨⟩))
      ⊢ wp frame (wpE (defs₀ (F := F)) Variants.none (c : Thread nD τ) none) Set.univ (cc0_rvq_decode (F := F) i arg2 harg2 arg3 harg3 arg4 harg4 arg5 harg5 arg6 harg6 arg7 harg7 arg8 harg8 arg9 harg9 arg10 harg10) K := by
  simp only [cc0_rvq_decode_eq_skeleton]; unfold cc0_rvq_decode_skel
  unfold owns
  iintro ⟨⟨%f2, %e2, H2⟩, ⟨%f3, %e3, H3⟩, ⟨%f4, %e4, H4⟩, ⟨%f5, %e5, H5⟩, ⟨%f6, %e6, H6⟩, ⟨%d7, %f7, -, H7⟩, ⟨%f8, %e8, H8⟩, ⟨%f9, %e9, H9⟩, ⟨%f10, %e10, H10⟩, Hk⟩
  sl_exec_parts
  sl_step
  iapply Hk
  isplitl [H2]; · iexists f2; isplitr; · (ipureintro; exact e2)
                  iexact H2
  isplitl [H3]; · iexists f3; isplitr; · (ipureintro; exact e3)
                  iexact H3
  isplitl [H4]; · iexists f4; isplitr; · (ipureintro; exact e4)
                  iexact H4
  isplitl [H5]; · iexists f5; isplitr; · (ipureintro; exact e5)
                  iexact H5
  isplitl [H6]; · iexists f6; isplitr; · (ipureintro; exact e6)
                  iexact H6
  isplitl [H7]
  · iexists _
    isplitr
    swap
    · iexact H7
    ipureintro
    rw [View.read_writes_full, View.readAt_full arg10.view]
    subst e2 e8 e9 e10
    sl_open_run
    sl_open_pay
    rfl
  isplitl [H8]; · iexists f8; isplitr; · (ipureintro; exact e8)
                  iexact H8
  isplitl [H9]; · iexists f9; isplitr; · (ipureintro; exact e9)
                  iexact H9
  iexists f10; isplitr; · (ipureintro; exact e10)
  iexact H10

theorem first (h : k0_cond1 i = 1#1) (x2 : S1x16x512.Idx → Elt F .i32) (x3 : S16x8x1024.Idx → Elt F .bf16) (x4 : S16x8x768.Idx → Elt F .fp8e4m3)
    (x5 : S16x768.Idx → Elt F .f32) (x6 : S16x768.Idx → Elt F .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (Out x2 (Tab x3) (Wts x4 x5) (k0_pay28 x6))
        ∗ owns (c : Thread nD τ) arg8 fullShare (Tab x3) ∗ owns (c : Thread nD τ) arg9 fullShare (Wts x4 x5) ∗ owns (c : Thread nD τ) arg10 fullShare (k0_pay28 x6)) -∗ K ⟨⟩))
      ⊢ wp frame (wpE (defs₀ (F := F)) Variants.none (c : Thread nD τ) none) Set.univ (cc0_rvq_decode (F := F) i arg2 harg2 arg3 harg3 arg4 harg4 arg5 harg5 arg6 harg6 arg7 harg7 arg8 harg8 arg9 harg9 arg10 harg10) K := by
  simp only [cc0_rvq_decode_eq_skeleton]; unfold cc0_rvq_decode_skel
  unfold owns
  iintro ⟨⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, ⟨%d10, %f10, -, H10⟩, Hk⟩
  sl_exec_parts
  sl_step
  have e8 : arg8.view.read (Elt F) fL0 = Tab x3 := by
    funext j; rw [hL3 j (lt_of_lt_of_eq (Nat.mod_lt _ (by decide)) (by decide)), e3]
  have e9 : arg9.view.read (Elt F) fL1 = Wts x4 x5 := by
    funext j; rw [hL5 j (lt_of_lt_of_eq (Nat.mod_lt _ (by decide)) (by decide)), e4, e5]
  iapply Hk
  isplitl [H2]; · iexists f2; isplitr; · (ipureintro; exact e2)
                  iexact H2
  isplitl [H3]; · iexists f3; isplitr; · (ipureintro; exact e3)
                  iexact H3
  isplitl [H4]; · iexists f4; isplitr; · (ipureintro; exact e4)
                  iexact H4
  isplitl [H5]; · iexists f5; isplitr; · (ipureintro; exact e5)
                  iexact H5
  isplitl [H6]; · iexists f6; isplitr; · (ipureintro; exact e6)
                  iexact H6
  isplitl [H7]
  · iexists _
    isplitr
    swap
    · iexact H7
    ipureintro
    rw [View.read_writes_full]
    rw [← e8, ← e9]
    subst e2 e6
    have eb : first.sl.v2263 c arg6 arg10 f6 = k0_pay28 (arg6.view.read (Elt F) f6) := by
      sl_unfold_run_names
      rw [View.readCov_full, View.readAt_full]
    rw [eb]
    sl_open_run
    sl_open_pay
    rfl
  isplitl [H8]; · iexists fL0; isplitr; · (ipureintro; exact e8)
                  iexact H8
  isplitl [H9]; · iexists fL1; isplitr; · (ipureintro; exact e9)
                  iexact H9
  iexists _
  isplitr
  swap
  · iexact H10
  ipureintro
  subst e6
  sl_unfold_run_names
  rw [View.read_writes_full, View.readAt_full]

end Body

end Cert.KIdeal.Hand

end
-- ==== Proof.KIdealValue.lean ====
/-
  The launch of `KIdeal` with what it leaves in its result array: between two grid points the three scratches hold what the first
  point put there, and every point writes its own block of the array. The frame is read off the same run.
-/
module

public import proofs.«01_k».proof.Proof.KIdealRun
public import Idealize.ShloMosaic.Lib.Pipeline.Value
public import Idealize.ShloMosaic.Lib.Claim

@[expose] public section

set_option maxRecDepth 65536
set_option maxHeartbeats 4000000

noncomputable section

namespace Cert.KIdeal.Hand

open Cert.KIdeal Cert.KIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable [∀ e, Nonempty (Elt F e)] (m : (ℓ : Loc nD τ sig) → Buf (Elt F) ℓ) (ρ : Dev nD → PrngReg)

/-- The first grid point. -/
abbrev t0 : Fin cfg0.N := (0 : Fin 192)

/-- What the first point leaves in the table's scratch, in the projection weights' and in the bias's. -/
def table (c : Dev nD) : S8x64x2x128.Idx → Elt F .bf16 := Tab (iblk m c 1 t0)
def weights (c : Dev nD) : S6x64x2x128.Idx → Elt F .bf16 := Wts (iblk m c 2 t0) (iblk m c 3 t0)
def biasSum (c : Dev nD) : S1x768.Idx → Elt F .f32 := k0_pay28 (iblk m c 4 t0)

/-- The invariant between points: the scratches at any contents before the first point, at what it leaves after. -/
def Phi (c : Dev nD) (t : Fin (cfg0.N + 1)) : sProp 𝕄 :=
  if t.val = 0 then Pipeline.ΦA spec0 c
  else iprop(iprop(owns (c : Thread nD τ) (Memref.whole cc0_scratch0) fullShare (table m c)
          ∗ owns (c : Thread nD τ) (Memref.whole cc0_scratch1) fullShare (weights m c)
          ∗ owns (c : Thread nD τ) (Memref.whole cc0_scratch2) fullShare (biasSum m c)) ∗ (∃ r, prngReg c r))

/-- The invariant before the first point, conjunct by conjunct: the three scratches at some contents, the generator register. -/
theorem PhiA0_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => Out (iblk m c 0 t) (table m c) (weights m c) (biasSum m c)
  Φ t := Phi m c t
  q _ := fullShare
  owed _ := 0

theorem A_eq (c : Dev nD) (w : Fin cfg0.W) : (dats m 0 c).A w = V m c (Pipeline.arrRef spec0 w) := by dsimp only [dats]

theorem after5 (c : Dev nD) (t : Fin cfg0.N) : (dats m 0 c).after 5 t = Out (iblk m c 0 t) (table m c) (weights m c) (biasSum m c) := by
  dsimp only [dats]

/-- The branch that fills the scratches is taken at the first point alone. -/
theorem cond_iff : ∀ t : Fin cfg0.N, k0_cond1 (grid0.coords t) = 1#1 ↔ t = t0 :=
  (by decide +kernel : ∀ t : Fin grid0.N, k0_cond1 (grid0.coords t) = 1#1 ↔ t = t0)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t))

/-- The body at a point: each input block as it was fetched, the scratches out of the invariant and back into it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Phi m c t.succ from rfl,
    show (dats m 0 c).owesAt () t.succ = (dats m 0 c).owesAt () t.castSucc from rfl,
    show (dats m 0 c).Φ t.castSucc = Phi m c t.castSucc from rfl, after5]
  simp only [before0_0_of m (dats m 0 c) (A_eq m c 0) (fun _ => rfl), before0_1_of m (dats m 0 c) (A_eq m c 1) (fun _ => rfl),
    before0_2_of m (dats m 0 c) (A_eq m c 2) (fun _ => rfl), before0_3_of m (dats m 0 c) (A_eq m c 3) (fun _ => rfl),
    before0_4_of m (dats m 0 c) (A_eq m c 4) (fun _ => rfl)]
  rw [show Phi m c t.succ = _ from if_neg (Nat.succ_ne_zero t.val)]
  by_cases h : t = t0
  · rw [show Phi m c t.castSucc = _ from if_pos (congrArg Fin.val h), PhiA0_eq]
    subst h
    iintro ⟨⟨⟨H8, H9, H10⟩, Hg⟩, HO, ⟨%d0, H0⟩, ⟨%d1, H1⟩, ⟨%d2, H2⟩, ⟨%d3, H3⟩, ⟨%d4, H4⟩, ⟨%d5, H5⟩⟩
    iapply (first c (grid0.coords t0) _ _ _ _ _ _ _ _ _ _ _ _ _ _ _ _ _ _ ((cond_iff t0).2 rfl) (iblk m c 0 t0) (iblk m c 1 t0) (iblk m c 2 t0) (iblk m c 3 t0) (iblk m c 4 t0) _)
    isplitl [H0]; · iexact H0
    isplitl [H1]; · iexact H1
    isplitl [H2]; · iexact H2
    isplitl [H3]; · iexact H3
    isplitl [H4]; · iexact H4
    isplitl [H5]; · iexists _; iexact H5
    isplitl [H8]; · iexact H8
    isplitl [H9]; · iexact H9
    isplitl [H10]; · iexact H10
    iintro ⟨H0, H1, H2, H3, H4, H5, H8, H9, H10⟩
    isplitl [H8 H9 H10 Hg]
    · isplitl [H8 H9 H10]
      · isplitl [H8]; · iexact H8
        isplitl [H9]; · iexact H9
        iexact H10
      iexact Hg
    isplitl [HO]; · iexact HO
    isplitl [H0]; · iexact H0
    isplitl [H1]; · iexact H1
    isplitl [H2]; · iexact H2
    isplitl [H3]; · iexact H3
    isplitl [H4]; · iexact H4
    iexact H5
  · rw [show Phi m c t.castSucc = _ from if_neg (fun e => h (Fin.ext e))]
    iintro ⟨⟨⟨H8, H9, H10⟩, Hg⟩, HO, ⟨%d0, H0⟩, ⟨%d1, H1⟩, ⟨%d2, H2⟩, ⟨%d3, H3⟩, ⟨%d4, H4⟩, ⟨%d5, H5⟩⟩
    iapply (later c (grid0.coords t) _ _ _ _ _ _ _ _ _ _ _ _ _ _ _ _ _ _ (fun e => h ((cond_iff t).1 e)) (iblk m c 0 t) (iblk m c 1 t) (iblk m c 2 t) (iblk m c 3 t) (iblk m c 4 t) (table m c) (weights m c) (biasSum m c) _)
    isplitl [H0]; · iexact H0
    isplitl [H1]; · iexact H1
    isplitl [H2]; · iexact H2
    isplitl [H3]; · iexact H3
    isplitl [H4]; · iexact H4
    isplitl [H5]; · iexists _; iexact H5
    isplitl [H8]; · iexact H8
    isplitl [H9]; · iexact H9
    isplitl [H10]; · iexact H10
    iintro ⟨H0, H1, H2, H3, H4, H5, H8, H9, H10⟩
    isplitl [H8 H9 H10 Hg]
    · isplitl [H8 H9 H10]
      · isplitl [H8]; · iexact H8
        isplitl [H9]; · iexact H9
        iexact H10
      iexact Hg
    isplitl [HO]; · iexact HO
    isplitl [H0]; · iexact H0
    isplitl [H1]; · iexact H1
    isplitl [H2]; · iexact H2
    isplitl [H3]; · iexact H3
    isplitl [H4]; · iexact H4
    iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem Phi_in (c : Dev nD) : (Pipeline.ΦA spec0 c : sProp 𝕄) ⊢ Phi m c 0 := by
  rw [show Phi m c 0 = _ from if_pos rfl]

theorem Phi_out (c : Dev nD) : Phi m c (Fin.last cfg0.N) ⊢ (Pipeline.ΦA spec0 c : sProp 𝕄) := by
  rw [show Phi m c (Fin.last cfg0.N) = _ from if_neg (by decide), PhiA0_eq]
  iintro ⟨⟨H8, H9, H10⟩, Hg⟩
  isplitl [H8 H9 H10]
  · isplitl [H8]; · iexists _; iexact H8
    isplitl [H9]; · iexists _; iexact H9
    iexists _; iexact H10
  iexact Hg

set_option backward.isDefEq.respectTransparency.types false in
theorem run_main :
    θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

/-- From any memory with zero counters the program runs to its end, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

theorem run_array : θ_run defs (onTc (τ := τ) (main (F := F))) ⟨m, fun _ => 0, ρ⟩ (fun r => ∀ c : Dev nD,
      r.2.mem ((c : Thread nD τ).loc main_v2) = (dats m 0 c).arrAt 5 cfg0.N) :=
  (θ_run defs _ _).mono (fun _ h c => (h.1 c).1 5) (run_main m ρ)

/-- The run with the result array named, the arguments unchanged. -/
theorem run_blocks : θ_run defs (onTc (τ := τ) (main (F := F))) ⟨m, fun _ => 0, ρ⟩ (fun r => ∀ c : Dev nD,
      r.2.mem ((c : Thread nD τ).loc main_v2) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨h.1 c, h.2.1 c⟩) (θ_run_and (run_array m ρ) (frame m ρ))

/-! ## The result array, block by block -/

/-- Two points write different blocks. -/
theorem idx_inj5 : ∀ t t' : Fin cfg0.N, win0_5.index t = win0_5.index t' → t = t' :=
  (by decide +kernel : ∀ t t' : Fin grid0.N, win0_5.index t = win0_5.index t' → t = t')

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- Point `t`'s block of the final array is what point `t` wrote. -/
theorem blocks5 (c : Dev nD) (t : Fin cfg0.N) :
    ((cfg0.win 5).blk t).view.read (Elt F) ((dats m 0 c).arrAt 5 cfg0.N) = (dats m 0 c).flushed 5 t :=
  (dats m 0 c).read_blk_arrAt_eq_flushed 5 disjoint5 cfg0.N t t.isLt (flush0_5 t)

end Cert.KIdeal.Hand

end
-- ==== Proof.Latent.lean ====
/-
  The latents as one formula over the five argument arrays, and the two orders in which its 128 products are met.
-/
module

public import Idealize.ShloMosaic.Lib.Pointwise

@[expose] public section

noncomputable section

namespace Cert.Latent

open Idealize.ShloMosaic

/-- The latent of frame `(b, t)` at output `o`: over the sixteen levels and the eight entries of a codeword, the entry the frame's code
    names times the projection weight, then the sixteen biases. -/
def latent (codes : (⟨3, ![6, 16384, 16]⟩ : Shape).Idx → BitVec 32) (books : (⟨3, ![16, 1024, 8]⟩ : Shape).Idx → EReal)
    (proj : (⟨3, ![16, 8, 768]⟩ : Shape).Idx → EReal) (scale bias : (⟨2, ![16, 768]⟩ : Shape).Idx → EReal)
    (b : Fin 6) (t : Fin 16384) (o : Fin 768) : EReal :=
  (∑ l : Fin 16, ∑ d : Fin 8, books (ix3 l ⟨(codes (ix3 b t l)).toNat % 1024, Nat.mod_lt _ (by decide)⟩ d) * (proj (ix3 l d o) * scale (ix2 l o)))
    + ∑ l : Fin 16, bias (ix2 l o)

/-- Place `8 l + d` of a flattened row of codewords is entry `d` of level `l`. -/
def byLevel : Fin 128 ≃ Fin 16 × Fin 8 where
  toFun k := (⟨k.val / 8, by have := k.isLt; omega⟩, ⟨k.val % 8, by omega⟩)
  invFun p := ⟨8 * p.1.val + p.2.val, by have := p.1.isLt; have := p.2.isLt; omega⟩
  left_inv k := Fin.ext (by show 8 * (k.val / 8) + k.val % 8 = k.val; omega)
  right_inv p := Prod.ext (Fin.ext (by have := p.2.isLt; show (8 * p.1.val + p.2.val) / 8 = p.1.val; omega))
    (Fin.ext (by have := p.2.isLt; show (8 * p.1.val + p.2.val) % 8 = p.2.val; omega))

/-- Row `32 wd + 2 l + h` of the kernel's table is entry `2 wd + h` of level `l`. -/
def byWord : Fin 128 ≃ Fin 16 × Fin 8 where
  toFun k := (⟨k.val / 2 % 16, by omega⟩, ⟨2 * (k.val / 2 / 16) + k.val % 2, by have := k.isLt; omega⟩)
  invFun p := ⟨32 * (p.2.val / 2) + 2 * p.1.val + p.2.val % 2, by have := p.1.isLt; have := p.2.isLt; omega⟩
  left_inv k := Fin.ext (by
    show 32 * ((2 * (k.val / 2 / 16) + k.val % 2) / 2) + 2 * (k.val / 2 % 16) + (2 * (k.val / 2 / 16) + k.val % 2) % 2 = k.val; omega)
  right_inv p := Prod.ext
    (Fin.ext (by have := p.1.isLt; have := p.2.isLt; show (32 * (p.2.val / 2) + 2 * p.1.val + p.2.val % 2) / 2 % 16 = p.1.val; omega))
    (Fin.ext (by
      have := p.1.isLt; have := p.2.isLt
      show 2 * ((32 * (p.2.val / 2) + 2 * p.1.val + p.2.val % 2) / 2 / 16) + (32 * (p.2.val / 2) + 2 * p.1.val + p.2.val % 2) % 2 = p.2.val; omega))

/-- A sum of 128 products, met in either order, is the sum over levels and entries. -/
theorem sum_split (e : Fin 128 ≃ Fin 16 × Fin 8) (f : Fin 128 → EReal) (g : Fin 16 → Fin 8 → EReal) (h : ∀ k, f k = g (e k).1 (e k).2) :
    ∑ k, f k = ∑ l, ∑ d, g l d := by
  rw [← Fintype.sum_prod_type' g]
  exact Fintype.sum_equiv e f (fun p => g p.1 p.2) h

end Cert.Latent

end
-- ==== Proof.KIdealSum.lean ====
/-
  `KIdeal`'s block of latents, element by element, and the result array the run leaves.
-/
module

public import proofs.«01_k».proof.Proof.KIdealValue
public import proofs.«01_k».proof.Proof.Latent
public import Idealize.ShloMosaic.Lib.Pipeline.ValueKit
public import Idealize.ShloMosaic.Lib.StableHlo.ReadAt

@[expose] public section

set_option maxRecDepth 65536
set_option maxHeartbeats 4000000

noncomputable section

namespace Cert.KIdeal.Sum

open Cert.KIdeal Cert.KIdeal.Gen Cert.KIdeal.Hand Cert.Latent
open Idealize.ShloMosaic Idealize.ShloMosaic.TcCoe Idealize.ShloMosaic.Tactic
open Idealize.ShloMosaic.Pipeline (Dat)

/-- A row of the looked-up table: what the frame's code of that row's level names in the level's codebook. -/
theorem looked_table (x2 : S1x16x512.Idx → Elt Ideal .i32) (x3 : S16x8x1024.Idx → Elt Ideal .bf16) (k : Fin 128) (t : Fin 512) :
    looked (F := Ideal) (fun f blk => block (codesAt x2 f blk) (tableAt (Tab x3) blk)) (ix2 k t)
      = x3 (ix3 (byWord k).1 (byWord k).2 ⟨(x2 (ix3 0 (byWord k).1 t)).toNat % 1024, Nat.mod_lt _ (by decide)⟩) := by
  rw [looked_apply]
  have hk := k.isLt
  have ht := t.isLt
  have hw : x2 (ix3 0 (byWord k).1 t) = codesAt (F := Ideal) x2 ⟨t.val / 128, by omega⟩ ⟨k.val / 16, by omega⟩
      (ix3 0 ⟨k.val % 16 / 2, by omega⟩ ⟨t.val % 128, by omega⟩) := by
    unfold codesAt
    refine congrArg x2 (funext fun a => Fin.ext ?_)
    match a with
    | 0 => rfl
    | 1 => show k.val / 2 % 16 = 8 * (k.val / 16 % 2) + 1 * (k.val % 16 / 2); omega
    | 2 => show t.val = 128 * (t.val / 128) + 1 * (t.val % 128); omega
  rw [block_apply _ _ _ _ _ hw]
  generalize x2 (ix3 0 (byWord k).1 t) = w
  show Tab (F := Ideal) x3 _ = _
  unfold Tab
  refine congrArg x3 (funext fun a => Fin.ext ?_)
  match a with
  | 0 => show (8 * (k.val / 16) + 1 * (k.val % 16 / 2)) % 16 = k.val / 2 % 16; omega
  | 1 => show 2 * ((8 * (k.val / 16) + 1 * (k.val % 16 / 2)) / 16) + (0 + 1 * (k.val % 16 % 2)) = 2 * (k.val / 2 / 16) + k.val % 2; omega
  | 2 => show (w.toNat / 128 % 8 + 1 * 0) * 128 + (0 + 1 * (w.toNat % 128)) = w.toNat % 1024; omega

/-- A row of the projection weights: the level's entry times the level's scale. -/
theorem weight_row (x4 : S16x8x768.Idx → Elt Ideal .fp8e4m3) (x5 : S16x768.Idx → Elt Ideal .f32) (k : Fin 128) (o : Fin 768) :
    weightRows (F := Ideal) (weightsAt (Wts x4 x5)) (ix2 k o) = x4 (ix3 (byWord k).1 (byWord k).2 o) * x5 (ix2 (byWord k).1 o) := by
  rw [weightRows_apply]
  have hk := k.isLt
  have ho := o.isLt
  have h : ∀ (l : Fin 16) (d : Fin 8), Wl (F := Ideal) x4 x5 l (ix2 d o) = x4 (ix3 l d o) * x5 (ix2 l o) := fun l d => by
    pointwise [Wl, k0_pay17]
  rw [← h]
  unfold weightsAt Wts
  refine congr (congrArg (Wl (F := Ideal) x4 x5) (Fin.ext ?_)) (funext fun a => Fin.ext ?_)
  · show (0 + 1 * (k.val / 2)) % 16 = k.val / 2 % 16; omega
  · match a with
    | 0 => show 2 * ((0 + 1 * (k.val / 2)) / 16) + (0 + 1 * (k.val % 2)) = 2 * (k.val / 2 / 16) + k.val % 2; omega
    | 1 => show (o.val / 128 + 1 * 0) * 128 + (0 + 1 * (o.val % 128)) = o.val; omega

/-- The block of latents a point writes, element by element. -/
theorem out_apply (x2 : S1x16x512.Idx → Elt Ideal .i32) (x3 : S16x8x1024.Idx → Elt Ideal .bf16) (x4 : S16x8x768.Idx → Elt Ideal .fp8e4m3)
    (x5 x6 : S16x768.Idx → Elt Ideal .f32) (t : Fin 512) (o : Fin 768) :
    Out (F := Ideal) x2 (Tab x3) (Wts x4 x5) (k0_pay28 x6) (ix3 0 t o)
      = (∑ l : Fin 16, ∑ d : Fin 8, x3 (ix3 l d ⟨(x2 (ix3 0 l t)).toNat % 1024, Nat.mod_lt _ (by decide)⟩) * (x4 (ix3 l d o) * x5 (ix2 l o)))
        + ∑ l : Fin 16, x6 (ix2 l o) := by
  have hb : k0_pay28 (F := Ideal) x6 (ix2 0 o) = ∑ l : Fin 16, x6 (ix2 l o) := by pointwise [k0_pay28]
  rw [← hb, ← sum_split byWord _ _ fun k => rfl]
  simp only [← weight_row x4 x5, ← looked_table x2 x3 _ t]
  unfold Out
  generalize k0_pay28 (F := Ideal) x6 = B
  generalize looked (F := Ideal) (fun f blk => block (codesAt x2 f blk) (tableAt (Tab x3) blk)) = E
  generalize weightRows (F := Ideal) (weightsAt (Wts x4 x5)) = W
  pointwise [k0_pay1]

variable (m : (ℓ : Loc nD τ sig) → Buf (Elt Ideal) ℓ)

/-- Where each window's block lies: the codes' and the latents' move with the grid, the others are whole arrays. -/
theorem idx : ∀ t : Fin cfg0.N, win0_0.index t = ![(t.val / 32), 0, t.val % 32] ∧ win0_1.index t = ![0, 0, 0] ∧ win0_2.index t = ![0, 0, 0]
    ∧ win0_3.index t = ![0, 0] ∧ win0_4.index t = ![0, 0] ∧ win0_5.index t = ![(t.val / 32), t.val % 32, 0] :=
  (by decide +kernel : ∀ t : Fin grid0.N, win0_0.index t = ![(t.val / 32), 0, t.val % 32] ∧ win0_1.index t = ![0, 0, 0] ∧ win0_2.index t = ![0, 0, 0]
    ∧ win0_3.index t = ![0, 0] ∧ win0_4.index t = ![0, 0] ∧ win0_5.index t = ![(t.val / 32), t.val % 32, 0])

/-- A point's block of codes. -/
theorem codes_block (c : Dev nD) (t : Fin cfg0.N) (l : Fin 16) (j : Fin 512) (b : Fin 6) (f : Fin 16384) (hb : b.val = t.val / 32)
    (hf : f.val = t.val % 32 * 512 + j.val) :
    iblk m c 0 t (ix3 0 l j) = m ((c : Thread nD τ).loc main_arg0) (ix3 b f l) := by
  obtain ⟨e0, e1, e2, e3, e4, e5⟩ := idx t
  blk_simp [iblk, V]
  after_reads_at
  blk_ext [e0]

/-- The codebooks' block, the array transposed. -/
theorem books_block (c : Dev nD) (t : Fin cfg0.N) (l : Fin 16) (d : Fin 8) (e : Fin 1024) :
    iblk m c 1 t (ix3 l d e) = m ((c : Thread nD τ).loc main_arg1) (ix3 l e d) := by
  obtain ⟨e0, e1, e2, e3, e4, e5⟩ := idx t
  blk_simp [iblk, V]
  after_reads_at
  blk_ext [e1]

theorem proj_block (c : Dev nD) (t : Fin cfg0.N) : iblk m c 2 t = m ((c : Thread nD τ).loc main_arg2) := by
  obtain ⟨e0, e1, e2, e3, e4, e5⟩ := idx t
  funext j
  blk_ext [iblk, V, e2]

theorem scale_block (c : Dev nD) (t : Fin cfg0.N) : iblk m c 3 t = m ((c : Thread nD τ).loc main_arg3) := by
  obtain ⟨e0, e1, e2, e3, e4, e5⟩ := idx t
  funext j
  blk_ext [iblk, V, e3]

theorem bias_block (c : Dev nD) (t : Fin cfg0.N) : iblk m c 4 t = m ((c : Thread nD τ).loc main_arg4) := by
  obtain ⟨e0, e1, e2, e3, e4, e5⟩ := idx t
  funext j
  blk_ext [iblk, V, e4]

/-- A point's block of latents is the formula's, frame by frame. -/
theorem block_value (c : Dev nD) (t : Fin cfg0.N) (j : Fin 512) (o : Fin 768) (b : Fin 6) (f : Fin 16384) (hb : b.val = t.val / 32)
    (hf : f.val = t.val % 32 * 512 + j.val) :
    Out (F := Ideal) (iblk m c 0 t) (table m c) (weights m c) (biasSum m c) (ix3 0 j o)
      = latent (m ((c : Thread nD τ).loc main_arg0)) (m ((c : Thread nD τ).loc main_arg1)) (m ((c : Thread nD τ).loc main_arg2))
        (m ((c : Thread nD τ).loc main_arg3)) (m ((c : Thread nD τ).loc main_arg4)) b f o := by
  unfold table weights biasSum
  rw [out_apply, proj_block, scale_block, bias_block]
  unfold latent
  refine congrArg₂ (· + ·) (Finset.sum_congr rfl fun l _ => Finset.sum_congr rfl fun d _ => ?_) rfl
  rw [codes_block m c t l j b f hb hf, books_block]

/-- The result array a run leaves: the latents of the arguments. -/
theorem result (c : Dev nD) :
    (dats m 0 c).arrAt 5 cfg0.N = fun j => latent (m ((c : Thread nD τ).loc main_arg0)) (m ((c : Thread nD τ).loc main_arg1))
      (m ((c : Thread nD τ).loc main_arg2)) (m ((c : Thread nD τ).loc main_arg3)) (m ((c : Thread nD τ).loc main_arg4)) (j 0) (j 1) (j 2) := by
  refine (dats m 0 c).arrAt_eq_of_covers 5 _ (by decide +kernel) fun t hf y => ?_
  obtain ⟨e0, e1, e2, e3, e4, e5⟩ := idx t
  blk_simp
  rw [after5]
  have hy : y = ix3 0 (y 1) (y 2) := by blk_ext
  have h2 : (win0_5.blk t).view.emb y 2 = y 2 := Fin.ext (by blk_simp [e5])
  rw [h2, hy]
  refine block_value m c t (y 1) (y 2) _ _ ?_ ?_
  · blk_simp [e5]
    exact Nat.add_zero _
  · blk_simp [e5]

end Cert.KIdeal.Sum

end
-- ==== Proof.Codes.lean ====
/-
  What the precondition says of the codes: each is at least 0 and below 1024.
-/
module

public import proofs.«01_k».proof.Pre_pre
public import Idealize.ShloMosaic.Lib.Pointwise

@[expose] public section

noncomputable section

namespace Cert.Pre_pre

open Idealize.ShloMosaic

/-- The predicate's one shape relation: a number laid out over the array of codes. -/
theorem facts : Cert.Pre_pre.Facts := ⟨⟨by decide, by decide⟩⟩

/-- Where the predicate is all ones, each code lies between 0 and 1023. -/
theorem codes_lt [Facts] (x0 : IVec S6x16384x16 32) (x1 : FVec Ideal S16x1024x8 .bf16) (x2 : FVec Ideal S16x8x768 .fp8e4m3)
    (x3 x4 : FVec Ideal S16x768 .f32) (h : fn (F := Ideal) x0 x1 x2 x3 x4 = fun _ => 1#1) (j : S6x16384x16.Idx) :
    0 ≤ (x0 j).toInt ∧ (x0 j).toInt < 1024 := by
  have e : BitVec.ofBool ((0#32).sle (x0 j)) &&& BitVec.ofBool ((x0 j).slt 1024#32) = 1#1 := congrFun h j
  rw [BitVec.sle_eq_decide, BitVec.slt_eq_decide] at e
  by_cases a : (0#32).toInt ≤ (x0 j).toInt <;> by_cases b : (x0 j).toInt < (1024#32).toInt
  · exact ⟨a, b⟩
  · rw [decide_eq_true a, decide_eq_false b] at e; exact absurd e (by decide)
  · rw [decide_eq_false a, decide_eq_true b] at e; exact absurd e (by decide)
  · rw [decide_eq_false a, decide_eq_false b] at e; exact absurd e (by decide)

end Cert.Pre_pre

end
-- ==== Proof.RIdealSum.lean ====
/-
  The reference's array of latents, element by element: its gather of codewords where every code is one of a codebook's entries, its product
  over a flattened row of codewords, its sum of biases.
-/
module

public import proofs.«01_k».proof.Proof.Gen.RIdeal.Value
public import proofs.«01_k».proof.Proof.Latent
public import Idealize.ShloMosaic.Lib.Pipeline.ValueKit
public import Idealize.ShloMosaic.Lib.StableHlo.ReadAt

@[expose] public section

set_option maxRecDepth 65536
set_option maxHeartbeats 4000000

noncomputable section

namespace Cert.RIdeal.Sum

open Cert.RIdeal Cert.RIdeal.Gen Cert.Latent
open Idealize.ShloMosaic Idealize.ShloMosaic.TcCoe Idealize.ShloMosaic.Tactic
open Idealize.ShloMosaic.Pipeline (Dat)

/-- The gather's row of the codebooks at one place: its two start words, each already an index within its axis. -/
theorem gather_apply {α : Type} (x : S16x1024x8.Idx → α) (ids : IVec S6x16384x16x2 32) (b : Fin 6) (t : Fin 16384) (l : Fin 16) (d : Fin 8)
    (u : Fin 16) (v : Fin 1024) (hu : (ids (ix4 b t l 0)).toInt = u.val) (hv : (ids (ix4 b t l 1)).toInt = v.val) :
    Host.gather gather_S16x1024x8_S6x16384x16x2_S6x16384x16x8_3_01_n_n_01_3_118 x ids (ix4 b t l d) = x (ix3 u v d) := by
  set g := gather_S16x1024x8_S6x16384x16x2_S6x16384x16x8_3_01_n_n_01_3_118 with hg
  unfold Host.gather
  refine congrArg x (funext fun a => Fin.ext ?_)
  show g.start (ix4 b t l d) ids a + g.batchCoord (ix4 b t l d) a + g.offCoord (ix4 b t l d) a = _
  rw [GatherDims.batchCoord_eq_zero _ _ _ List.not_mem_nil]
  have hu' := u.isLt
  have hv' := v.isLt
  have s0 : ∀ h, g.siIdx (ix4 b t l d) ⟨0, h⟩ = ix4 b t l 0 := fun h => by
    funext e; refine Fin.ext ?_
    match e with
    | 0 => rfl
    | 1 => rfl
    | 2 => rfl
    | 3 => rfl
  have s1 : ∀ h, g.siIdx (ix4 b t l d) ⟨1, h⟩ = ix4 b t l 1 := fun h => by
    funext e; refine Fin.ext ?_
    match e with
    | 0 => rfl
    | 1 => rfl
    | 2 => rfl
    | 3 => rfl
  match a with
  | 0 =>
    rw [GatherDims.offCoord_eq_zero _ _ _ (fun h => ((GatherDims.mem_sKept _ _).mp h).1 (by decide))]
    show g.start (ix4 b t l d) ids 0 + 0 + 0 = u.val
    unfold GatherDims.start
    rw [dif_pos (show (0 : Fin 3) ∈ g.startIndexMap from by decide)]
    show min (ids (g.siIdx (ix4 b t l d) ⟨0, _⟩)).toInt.toNat 15 + 0 + 0 = u.val
    refine (congrArg (fun i => min (ids i).toInt.toNat 15 + 0 + 0) (s0 _)).trans ?_
    show min (ids (ix4 b t l 0)).toInt.toNat 15 + 0 + 0 = u.val
    rw [hu]; omega
  | 1 =>
    rw [GatherDims.offCoord_eq_zero _ _ _ (fun h => ((GatherDims.mem_sKept _ _).mp h).1 (by decide))]
    show g.start (ix4 b t l d) ids 1 + 0 + 0 = v.val
    unfold GatherDims.start
    rw [dif_pos (show (1 : Fin 3) ∈ g.startIndexMap from by decide)]
    show min (ids (g.siIdx (ix4 b t l d) ⟨1, _⟩)).toInt.toNat 1023 + 0 + 0 = v.val
    refine (congrArg (fun i => min (ids i).toInt.toNat 1023 + 0 + 0) (s1 _)).trans ?_
    show min (ids (ix4 b t l 1)).toInt.toNat 1023 + 0 + 0 = v.val
    rw [hv]; omega
  | 2 =>
    unfold GatherDims.start
    rw [dif_neg (show (2 : Fin 3) ∉ g.startIndexMap from by decide)]
    show 0 + 0 + d.val = d.val
    omega

/-- The block of latents, element by element, from the flattened rows of codewords. -/
theorem pay_apply (x1 : S16x8x768.Idx → Elt Ideal .fp8e4m3) (x2 : S16x768.Idx → Elt Ideal .f32) (x0 : S98304x128.Idx → Elt Ideal .bf16)
    (x3 : S16x768.Idx → Elt Ideal .f32) (b : Fin 6) (t : Fin 16384) (o : Fin 768) :
    k0_pay1 (F := Ideal) x1 x2 x0 x3 (ix3 b t o)
      = (∑ l : Fin 16, ∑ d : Fin 8, x0 (ix2 ⟨b.val * 16384 + t.val, by have := b.isLt; have := t.isLt; omega⟩
            ⟨8 * l.val + d.val, by have := l.isLt; have := d.isLt; omega⟩) * (x1 (ix3 l d o) * x2 (ix2 l o)))
        + ∑ l : Fin 16, x3 (ix2 l o) := by
  rw [← sum_split byLevel (fun k => x0 (ix2 ⟨b.val * 16384 + t.val, by have := b.isLt; have := t.isLt; omega⟩ k)
    * (x1 (ix3 (byLevel k).1 (byLevel k).2 o) * x2 (ix2 (byLevel k).1 o))) _ fun k => ?_]
  · pointwise [k0_pay1]
    rfl
  · refine congrArg (fun i => x0 (ix2 _ i) * _) (Fin.ext ?_)
    show k.val = 8 * (k.val / 8) + k.val % 8
    omega

/-- A level's number, as the gather's normalisation of negative indices leaves it. -/
theorem level_word : ∀ l : Fin 16, (Scalar.select (IntOp.cmpi CmpIPredicate.slt (BitVec.ofNat 32 l.val) 0#32) (IntOp.addi (BitVec.ofNat 32 l.val) 16#32)
    (BitVec.ofNat 32 l.val)).toInt = l.val := by decide +kernel

/-- A code within its codebook, as that normalisation leaves it. -/
theorem code_word (w : BitVec 32) (k : Fin 1024) (h : w.toInt = k.val) :
    (Scalar.select (IntOp.cmpi CmpIPredicate.slt w 0#32) (IntOp.addi w 1024#32) w).toInt = k.val := by
  have hs : w.slt 0#32 = false := by
    rw [BitVec.slt_eq_decide, h]; exact decide_eq_false (by simp)
  have hc : IntOp.cmpi CmpIPredicate.slt w 0#32 = 0#1 := by
    show BitVec.ofBool (w.slt 0#32) = _
    rw [hs]; rfl
  rw [hc]
  exact h

variable (m : (ℓ : Loc nD τ sig) → Buf (Elt Ideal) ℓ)

/-- The row of codewords at a frame: the entries its codes name. -/
theorem words_at (c : Dev nD) (b : Fin 6) (t : Fin 16384) (l : Fin 16) (d : Fin 8) (k : Fin 1024)
    (hk : (m ((c : Thread nD τ).loc main_arg0) (ix3 b t l) : BitVec 32).toInt = k.val) (r : Fin 98304) (hr : r.val = b.val * 16384 + t.val)
    (q : Fin 128) (hq : q.val = 8 * l.val + d.val) :
    V m c main_v17 (ix2 r q) = m ((c : Thread nD τ).loc main_arg1) (ix3 l k d) := by
  unfold V
  after_reads_at
  have hb := b.isLt
  have ht := t.isLt
  have hl := l.isLt
  have hd := d.isLt
  have hi : (ix4 ⟨r.val / 16384, by omega⟩ ⟨r.val % 16384, by omega⟩ ⟨q.val / 8, by omega⟩ ⟨q.val % 8, by omega⟩ : S6x16384x16x8.Idx) = ix4 b t l d := by
    funext e; refine Fin.ext ?_
    match e with
    | 0 => show r.val / 16384 = b.val; omega
    | 1 => show r.val % 16384 = t.val; omega
    | 2 => show q.val / 8 = l.val; omega
    | 3 => show q.val % 8 = d.val; omega
  rw [hi]
  refine gather_apply _ _ b t l d l k ?_ ?_
  · pointwise
    after_reads_at
    exact level_word l
  · pointwise
    after_reads_at
    exact code_word _ k hk

end Cert.RIdeal.Sum

end
-- ==== Proof.RIdealResult.lean ====
/-
  The array of latents the reference's run leaves, where every code is one of a codebook's entries.
-/
module

public import proofs.«01_k».proof.Proof.RIdealSum

@[expose] public section

set_option maxRecDepth 65536
set_option maxHeartbeats 4000000

noncomputable section

namespace Cert.RIdeal.Sum

open Cert.RIdeal Cert.RIdeal.Gen Cert.Latent
open Idealize.ShloMosaic Idealize.ShloMosaic.TcCoe Idealize.ShloMosaic.Tactic
open Idealize.ShloMosaic.Pipeline (Dat)

variable (m : (ℓ : Loc nD τ sig) → Buf (Elt Ideal) ℓ)

/-- Every window's block is its whole array. -/
theorem idx : ∀ t : Fin cfg0.N, win0_0.index t = ![0, 0] ∧ win0_1.index t = ![0, 0, 0] ∧ win0_2.index t = ![0, 0]
    ∧ win0_3.index t = ![0, 0] ∧ win0_4.index t = ![0, 0, 0] :=
  (by decide +kernel : ∀ t : Fin grid0.N, win0_0.index t = ![0, 0] ∧ win0_1.index t = ![0, 0, 0] ∧ win0_2.index t = ![0, 0]
    ∧ win0_3.index t = ![0, 0] ∧ win0_4.index t = ![0, 0, 0])

theorem words_block (c : Dev nD) (t : Fin cfg0.N) : iblk m c 0 t = V m c main_v17 := by
  obtain ⟨e0, e1, e2, e3, e4⟩ := idx t
  funext j
  blk_ext [iblk, e0]

theorem proj_block (c : Dev nD) (t : Fin cfg0.N) : iblk m c 1 t = m ((c : Thread nD τ).loc main_arg2) := by
  obtain ⟨e0, e1, e2, e3, e4⟩ := idx t
  funext j
  blk_ext [iblk, V, e1]

theorem scale_block (c : Dev nD) (t : Fin cfg0.N) : iblk m c 2 t = m ((c : Thread nD τ).loc main_arg3) := by
  obtain ⟨e0, e1, e2, e3, e4⟩ := idx t
  funext j
  blk_ext [iblk, V, e2]

theorem bias_block (c : Dev nD) (t : Fin cfg0.N) : iblk m c 3 t = m ((c : Thread nD τ).loc main_arg4) := by
  obtain ⟨e0, e1, e2, e3, e4⟩ := idx t
  funext j
  blk_ext [iblk, V, e3]

/-- A code between 0 and 1023 names the entry its word counts. -/
theorem code_entry (w : BitVec 32) (h0 : 0 ≤ w.toInt) (h1 : w.toInt < 1024) : w.toInt = ((w.toNat % 1024 : ℕ) : ℤ) := by
  have := w.isLt
  have e : w.toInt = (w.toNat : ℤ) := by
    rw [BitVec.toInt_eq_toNat_cond] at h0 ⊢
    split_ifs at h0 ⊢ with h
    · rfl
    · omega
  rw [e] at h1 ⊢
  omega

/-- The body's latents are the formula's, frame by frame. -/
theorem value (c : Dev nD) (h : ∀ b t l, 0 ≤ (m ((c : Thread nD τ).loc main_arg0) (ix3 b t l) : BitVec 32).toInt
      ∧ (m ((c : Thread nD τ).loc main_arg0) (ix3 b t l) : BitVec 32).toInt < 1024) (b : Fin 6) (t : Fin 16384) (o : Fin 768) :
    k0_pay1 (F := Ideal) (m ((c : Thread nD τ).loc main_arg2)) (m ((c : Thread nD τ).loc main_arg3)) (V m c main_v17)
        (m ((c : Thread nD τ).loc main_arg4)) (ix3 b t o)
      = latent (m ((c : Thread nD τ).loc main_arg0)) (m ((c : Thread nD τ).loc main_arg1)) (m ((c : Thread nD τ).loc main_arg2))
        (m ((c : Thread nD τ).loc main_arg3)) (m ((c : Thread nD τ).loc main_arg4)) b t o := by
  refine (pay_apply _ _ _ _ b t o).trans ?_
  unfold latent
  refine congrArg₂ (· + ·) (Finset.sum_congr rfl fun l _ => Finset.sum_congr rfl fun d _ => ?_) rfl
  refine congrArg (· * _) (words_at m c b t l d _ ?_ _ rfl _ rfl)
  exact code_entry _ (h _ _ _).1 (h _ _ _).2

/-- The result array a run leaves: the latents of the arguments. -/
theorem result (c : Dev nD) (h : ∀ b t l, 0 ≤ (m ((c : Thread nD τ).loc main_arg0) (ix3 b t l) : BitVec 32).toInt
      ∧ (m ((c : Thread nD τ).loc main_arg0) (ix3 b t l) : BitVec 32).toInt < 1024) :
    (dats m 0 c).arrAt 4 cfg0.N = fun j => latent (m ((c : Thread nD τ).loc main_arg0)) (m ((c : Thread nD τ).loc main_arg1))
      (m ((c : Thread nD τ).loc main_arg2)) (m ((c : Thread nD τ).loc main_arg3)) (m ((c : Thread nD τ).loc main_arg4)) (j 0) (j 1) (j 2) := by
  refine (dats m 0 c).arrAt_eq_of_covers 4 _ (by decide +kernel) fun t hf y => ?_
  obtain ⟨e0, e1, e2, e3, e4⟩ := idx t
  blk_simp
  rw [after0_4]
  frame_out
  rw [words_block, proj_block, scale_block, bias_block]
  have hy : y = ix3 (y 0) (y 1) (y 2) := by blk_ext
  have h0 : (win0_4.blk t).view.emb y 0 = y 0 := Fin.ext (by blk_simp [e4])
  have h1 : (win0_4.blk t).view.emb y 1 = y 1 := Fin.ext (by blk_simp [e4])
  have h2 : (win0_4.blk t).view.emb y 2 = y 2 := Fin.ext (by blk_simp [e4])
  rw [h0, h1, h2, hy]
  exact value m c h (y 0) (y 1) (y 2)

end Cert.RIdeal.Sum

end
-- ==== Proof.lean ====
module

public import proofs.«01_k».proof.Defs
public import proofs.«01_k».proof.Proof.KFrame
public import proofs.«01_k».proof.Proof.KIdealSum
public import proofs.«01_k».proof.Proof.Codes
public import proofs.«01_k».proof.Proof.RIdealResult
public import proofs.«01_k».proof.Proof.Gen.RIdeal.Frame
public import proofs.«01_k».proof.Proof.Gen.RIdeal.Value
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem

theorem preserves : Cert.preserves_K_KIdeal :=
  ⟨IdealRules.bf16_pair.bufferStatement _ _, IdealRules.bf16_pair.bufferStatement _ _,
    IdealRules.bf16_pair.statement _ _, IdealRules.bf16_pair.statement _ _, IdealRules.bf16_pair.statement _ _,
    IdealRules.bf16_pair.statement _ _, IdealRules.bf16_pair.statement _ _, IdealRules.bf16_pair.statement _ _,
    IdealRules.bf16_pair.statement _ _, IdealRules.bf16_pair.statement _ _⟩

/-- From equal arguments, every code an entry of its codebook, the kernel's array of latents is the reference's. -/
theorem algebraic : Cert.algebraic_KIdeal_RIdeal_pre_pre (hKIdeal := Cert.KIdeal.Gen.facts) (hRIdeal := Cert.RIdeal.Gen.facts)
    (hPre_pre := Cert.Pre_pre.facts) := by
  intro m g m' g' hpre hargs
  haveI := Cert.Pre_pre.facts
  refine ⟨fun c => fun j => Cert.Latent.latent (m ((c.tc : Thread Cert.KIdeal.nD Cert.KIdeal.τ).loc Cert.KIdeal.main_arg0))
    (m ((c.tc : Thread Cert.KIdeal.nD Cert.KIdeal.τ).loc Cert.KIdeal.main_arg1)) (m ((c.tc : Thread Cert.KIdeal.nD Cert.KIdeal.τ).loc Cert.KIdeal.main_arg2))
    (m ((c.tc : Thread Cert.KIdeal.nD Cert.KIdeal.τ).loc Cert.KIdeal.main_arg3)) (m ((c.tc : Thread Cert.KIdeal.nD Cert.KIdeal.τ).loc Cert.KIdeal.main_arg4))
    (j 0) (j 1) (j 2), ?_, ?_⟩
  · refine (θ_run (Cert.KIdeal.defs (F := Ideal)) _ _).mono (fun r h c => ?_) (Cert.KIdeal.Hand.run_blocks (F := Ideal) m g)
    exact ⟨(h c).1.trans (Cert.KIdeal.Sum.result m c), (h c).2⟩
  · refine (θ_run (Cert.RIdeal.defs (F := Ideal)) _ _).mono (fun r h c => ?_) (Cert.RIdeal.Value.run_blocks (F := Ideal) m' g')
    obtain ⟨e0, e1, e2, e3, e4⟩ := hargs c
    refine ⟨(h c).1.trans ((Cert.RIdeal.Sum.result m' c fun b t l => ?_).trans ?_), (h c).2⟩
    · rw [e0]
      exact Cert.Pre_pre.codes_lt _ _ _ _ _ (hpre c) _
    · rw [e0, e1, e2, e3, e4]; rfl

theorem claim : Cert.Claim := ⟨Cert.K.Gen.facts, Cert.KIdeal.Gen.facts, Cert.RIdeal.Gen.facts, Cert.Pre_pre.facts,
  fun m ρ _ => Cert.K.Hand.frame m ρ, fun m ρ _ => Cert.KIdeal.Hand.frame m ρ, fun m ρ _ => Cert.KIdeal.Hand.frame m ρ,
  fun m ρ _ => Cert.RIdeal.Gen.frame m ρ, fun m ρ _ => Cert.RIdeal.Gen.frame m ρ, preserves, algebraic⟩

end Cert.Proof

end
